-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S3x256x1024 : Shape := ⟨3, ![3, 256, 1024]⟩
abbrev S2x3x2x128x512 : Shape := ⟨5, ![2, 3, 2, 128, 512]⟩
abbrev S2x256x512 : Shape := ⟨3, ![2, 256, 512]⟩
abbrev S2x3x4x64x512 : Shape := ⟨5, ![2, 3, 4, 64, 512]⟩
abbrev S2x3x2 : Shape := ⟨3, ![2, 3, 2]⟩
abbrev S2x3x4 : Shape := ⟨3, ![2, 3, 4]⟩
abbrev S_ : Shape := ⟨0, ![]⟩
abbrev S128x1024 : Shape := ⟨2, ![128, 1024]⟩
abbrev S128x2048 : Shape := ⟨2, ![128, 2048]⟩
abbrev S128x512 : Shape := ⟨2, ![128, 512]⟩
abbrev S1x1x1x128x512 : Shape := ⟨5, ![1, 1, 1, 128, 512]⟩
abbrev S1x1x1 : Shape := ⟨3, ![1, 1, 1]⟩
abbrev S1x128x1024 : Shape := ⟨3, ![1, 128, 1024]⟩
abbrev S1x128x512 : Shape := ⟨3, ![1, 128, 512]⟩
abbrev S1x1x1x64x512 : Shape := ⟨5, ![1, 1, 1, 64, 512]⟩
abbrev S64x512 : Shape := ⟨2, ![64, 512]⟩
abbrev S1x64x512 : Shape := ⟨3, ![1, 64, 512]⟩

abbrev nBuf : Space → Nat
  | .hbm => 4
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S2048x1024, .f32⟩
  | .hbm, ⟨3, _⟩ => ⟨S1024x1024, .f32⟩
  | .local _ .vmem, ⟨0, _⟩ => ⟨S1024x1024, .f32⟩
  | .local _ .vmem, ⟨1, _⟩ => ⟨S1024x2048, .f32⟩
  | .local _ .vmem, ⟨2, _⟩ => ⟨S2048x1024, .f32⟩
  | .local _ .vmem, ⟨3, _⟩ => ⟨S1024x1024, .f32⟩
  | .local _ .vmem, ⟨4, _⟩ => ⟨S3x256x1024, .f32⟩
  | .local _ .vmem, ⟨5, _⟩ => ⟨S2x3x2x128x512, .bf16⟩
  | .local _ .vmem, ⟨6, _⟩ => ⟨S2x3x2x128x512, .bf16⟩
  | .local _ .vmem, ⟨7, _⟩ => ⟨S2x256x512, .bf16⟩
  | .local _ .vmem, ⟨8, _⟩ => ⟨S2x3x4x64x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_40 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v63 : BitVec 32 := Scalar.muli v2 c256_i32
  let v64 : BitVec 32 := Scalar.addi v63 c0_i32_40
  let v65 : Index := Scalar.indexCast v64
  let c0 : Index := 0#32
  ![v65.toNat, 0]
def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_64 : BitVec 32 := 1#32
  let v81 : BitVec 32 := Scalar.muli v24 c1_i32_64
  let v82 : BitVec 32 := Scalar.addi c0_i32_65 v81
  v82.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_86 : BitVec 32 := 1#32
  let v96 : BitVec 32 := Scalar.muli v13 c1_i32_86
  let v97 : BitVec 32 := Scalar.addi c0_i32_87 v96
  v97.toNat
def k0_dev5 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_118 : BitVec 32 := 1#32
  let v124 : BitVec 32 := Scalar.muli v24 c1_i32_118
  let v125 : BitVec 32 := Scalar.addi c0_i32_119 v124
  v125.toNat
def k0_dev6 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_141 : BitVec 32 := 1#32
  let v139 : BitVec 32 := Scalar.muli v13 c1_i32_141
  let v140 : BitVec 32 := Scalar.addi c0_i32_142 v139
  v140.toNat
def k0_off2 (d0 : Dev nD) (c0_i32_148 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32_147 : BitVec 32 := 256#32
  let v149 : BitVec 32 := Scalar.muli v40 c256_i32_147
  let v150 : BitVec 32 := Scalar.addi v149 c0_i32_148
  let v151 : Index := Scalar.indexCast v150
  let c0_149 : Index := 0#32
  ![v151.toNat, 0]
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_202 : BitVec 32 := 1#32
  let v183 : BitVec 32 := Scalar.muli v24 c1_i32_202
  let v184 : BitVec 32 := Scalar.addi c0_i32_203 v183
  v184.toNat
def k0_off3 (d0 : Dev nD) (c1_i32_26 : BitVec 32) (c0_i32_209 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : BitVec 32 := Scalar.addi v2 c1_i32_26
  let c4_i32_27 : BitVec 32 := 4#32
  let c0_i32_28 : BitVec 32 := 0#32
  let v42 : BitVec 1 := Scalar.cmpi .eq c4_i32_27 c0_i32_28
  let c1_i32_29 : BitVec 32 := 1#32
  let v43 : BitVec 32 := Scalar.select v42 c1_i32_29 c4_i32_27
  let v44 : BitVec 32 := Scalar.remsi v41 v43
  let c0_i32_31 : BitVec 32 := 0#32
  let v46 : BitVec 1 := Scalar.cmpi .slt v44 c0_i32_31
  let c0_i32_32 : BitVec 32 := 0#32
  let v47 : BitVec 1 := Scalar.cmpi .slt v43 c0_i32_32
  let v48 : BitVec 1 := Scalar.xori v46 v47
  let c0_i32_30 : BitVec 32 := 0#32
  let v45 : BitVec 1 := Scalar.cmpi .ne v44 c0_i32_30
  let v49 : BitVec 1 := Scalar.andi v48 v45
  let v50 : BitVec 32 := Scalar.addi v44 v43
  let v51 : BitVec 32 := Scalar.select v49 v50 v44
  let c256_i32_208 : BitVec 32 := 256#32
  let v193 : BitVec 32 := Scalar.muli v51 c256_i32_208
  let v194 : BitVec 32 := Scalar.addi v193 c0_i32_209
  let v195 : Index := Scalar.indexCast v194
  let c0_210 : Index := 0#32
  ![v195.toNat, 0]
def k0_dev8 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_264 : BitVec 32 := 1#32
  let v227 : BitVec 32 := Scalar.muli v13 c1_i32_264
  let v228 : BitVec 32 := Scalar.addi c0_i32_265 v227
  v228.toNat
def k0_dev9 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_325 : BitVec 32 := 1#32
  let v271 : BitVec 32 := Scalar.muli v24 c1_i32_325
  let v272 : BitVec 32 := Scalar.addi c0_i32_326 v271
  v272.toNat
def k0_dev10 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_387 : BitVec 32 := 1#32
  let v315 : BitVec 32 := Scalar.muli v13 c1_i32_387
  let v316 : BitVec 32 := Scalar.addi c0_i32_388 v315
  v316.toNat
def k0_dev11 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_448 : BitVec 32 := 1#32
  let v359 : BitVec 32 := Scalar.muli v24 c1_i32_448
  let v360 : BitVec 32 := Scalar.addi c0_i32_449 v359
  v360.toNat
def k0_dev12 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_497 : BitVec 32 := 1#32
  let v387 : BitVec 32 := Scalar.muli v13 c1_i32_497
  let v388 : BitVec 32 := Scalar.addi c0_i32_498 v387
  v388.toNat
def k0_dev13 (d0 : Dev nD) : Nat :=
  let c0_i32_560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_559 : BitVec 32 := 1#32
  let v431 : BitVec 32 := Scalar.muli v24 c1_i32_559
  let v432 : BitVec 32 := Scalar.addi c0_i32_560 v431
  v432.toNat
def k0_dev14 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_608 : BitVec 32 := 1#32
  let v459 : BitVec 32 := Scalar.muli v13 c1_i32_608
  let v460 : BitVec 32 := Scalar.addi c0_i32_609 v459
  v460.toNat
def k0_off4 (d0 : Dev nD) (c0_i32_655 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_614 : BitVec 32 := 1#32
  let v469 : BitVec 32 := Scalar.addi v2 c1_i32_614
  let c4_i32_615 : BitVec 32 := 4#32
  let c0_i32_616 : BitVec 32 := 0#32
  let v470 : BitVec 1 := Scalar.cmpi .eq c4_i32_615 c0_i32_616
  let c1_i32_617 : BitVec 32 := 1#32
  let v471 : BitVec 32 := Scalar.select v470 c1_i32_617 c4_i32_615
  let v472 : BitVec 32 := Scalar.remsi v469 v471
  let c0_i32_619 : BitVec 32 := 0#32
  let v474 : BitVec 1 := Scalar.cmpi .slt v472 c0_i32_619
  let c0_i32_620 : BitVec 32 := 0#32
  let v475 : BitVec 1 := Scalar.cmpi .slt v471 c0_i32_620
  let v476 : BitVec 1 := Scalar.xori v474 v475
  let c0_i32_618 : BitVec 32 := 0#32
  let v473 : BitVec 1 := Scalar.cmpi .ne v472 c0_i32_618
  let v477 : BitVec 1 := Scalar.andi v476 v473
  let v478 : BitVec 32 := Scalar.addi v472 v471
  let v479 : BitVec 32 := Scalar.select v477 v478 v472
  let c256_i32_654 : BitVec 32 := 256#32
  let v506 : BitVec 32 := Scalar.muli v479 c256_i32_654
  let v507 : BitVec 32 := Scalar.addi v506 c0_i32_655
  let v508 : Index := Scalar.indexCast v507
  let c512_656 : Index := 512#32
  ![v508.toNat, 512]
def k0_dev15 (d0 : Dev nD) : Nat :=
  let c0_i32_671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_670 : BitVec 32 := 1#32
  let v514 : BitVec 32 := Scalar.muli v24 c1_i32_670
  let v515 : BitVec 32 := Scalar.addi c0_i32_671 v514
  v515.toNat
def k0_dev16 (d0 : Dev nD) : Nat :=
  let c0_i32_687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_686 : BitVec 32 := 1#32
  let v524 : BitVec 32 := Scalar.muli v24 c1_i32_686
  let v525 : BitVec 32 := Scalar.addi c0_i32_687 v524
  v525.toNat
def k0_off5 (d0 : Dev nD) (c0_i32_718 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_621 : BitVec 32 := 1#32
  let v480 : BitVec 32 := Scalar.subi v2 c1_i32_621
  let c4_i32_622 : BitVec 32 := 4#32
  let c0_i32_623 : BitVec 32 := 0#32
  let v481 : BitVec 1 := Scalar.cmpi .eq c4_i32_622 c0_i32_623
  let c1_i32_624 : BitVec 32 := 1#32
  let v482 : BitVec 32 := Scalar.select v481 c1_i32_624 c4_i32_622
  let v483 : BitVec 32 := Scalar.remsi v480 v482
  let c0_i32_626 : BitVec 32 := 0#32
  let v485 : BitVec 1 := Scalar.cmpi .slt v483 c0_i32_626
  let c0_i32_627 : BitVec 32 := 0#32
  let v486 : BitVec 1 := Scalar.cmpi .slt v482 c0_i32_627
  let v487 : BitVec 1 := Scalar.xori v485 v486
  let c0_i32_625 : BitVec 32 := 0#32
  let v484 : BitVec 1 := Scalar.cmpi .ne v483 c0_i32_625
  let v488 : BitVec 1 := Scalar.andi v487 v484
  let v489 : BitVec 32 := Scalar.addi v483 v482
  let v490 : BitVec 32 := Scalar.select v488 v489 v483
  let c256_i32_717 : BitVec 32 := 256#32
  let v549 : BitVec 32 := Scalar.muli v490 c256_i32_717
  let v550 : BitVec 32 := Scalar.addi v549 c0_i32_718
  let v551 : Index := Scalar.indexCast v550
  let c0_719 : Index := 0#32
  ![v551.toNat, 0]
def k0_dev17 (d0 : Dev nD) : Nat :=
  let c0_i32_734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_733 : BitVec 32 := 1#32
  let v557 : BitVec 32 := Scalar.muli v13 c1_i32_733
  let v558 : BitVec 32 := Scalar.addi c0_i32_734 v557
  v558.toNat
def k0_dev18 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_749 : BitVec 32 := 1#32
  let v567 : BitVec 32 := Scalar.muli v13 c1_i32_749
  let v568 : BitVec 32 := Scalar.addi c0_i32_750 v567
  v568.toNat
def k0_dev19 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_797 : BitVec 32 := 1#32
  let v600 : BitVec 32 := Scalar.muli v24 c1_i32_797
  let v601 : BitVec 32 := Scalar.addi c0_i32_798 v600
  v601.toNat
def k0_dev20 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_812 : BitVec 32 := 1#32
  let v610 : BitVec 32 := Scalar.muli v24 c1_i32_812
  let v611 : BitVec 32 := Scalar.addi c0_i32_813 v610
  v611.toNat
def k0_dev21 (d0 : Dev nD) : Nat :=
  let c0_i32_860 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_859 : BitVec 32 := 1#32
  let v643 : BitVec 32 := Scalar.muli v13 c1_i32_859
  let v644 : BitVec 32 := Scalar.addi c0_i32_860 v643
  v644.toNat
def k0_dev22 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_875 : BitVec 32 := 1#32
  let v653 : BitVec 32 := Scalar.muli v13 c1_i32_875
  let v654 : BitVec 32 := Scalar.addi c0_i32_876 v653
  v654.toNat
def k0_off6 (d0 : Dev nD) (c0_i32_902 : BitVec 32) (c0_i32_910 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v674 : BitVec 32 := Scalar.subi v2 c0_i32_902
  let c4_i32_903 : BitVec 32 := 4#32
  let c0_i32_904 : BitVec 32 := 0#32
  let v675 : BitVec 1 := Scalar.cmpi .eq c4_i32_903 c0_i32_904
  let c1_i32_905 : BitVec 32 := 1#32
  let v676 : BitVec 32 := Scalar.select v675 c1_i32_905 c4_i32_903
  let v677 : BitVec 32 := Scalar.remsi v674 v676
  let c0_i32_907 : BitVec 32 := 0#32
  let v679 : BitVec 1 := Scalar.cmpi .slt v677 c0_i32_907
  let c0_i32_908 : BitVec 32 := 0#32
  let v680 : BitVec 1 := Scalar.cmpi .slt v676 c0_i32_908
  let v681 : BitVec 1 := Scalar.xori v679 v680
  let c0_i32_906 : BitVec 32 := 0#32
  let v678 : BitVec 1 := Scalar.cmpi .ne v677 c0_i32_906
  let v682 : BitVec 1 := Scalar.andi v681 v678
  let v683 : BitVec 32 := Scalar.addi v677 v676
  let v684 : BitVec 32 := Scalar.select v682 v683 v677
  let c256_i32_909 : BitVec 32 := 256#32
  let v685 : BitVec 32 := Scalar.muli v684 c256_i32_909
  let v686 : BitVec 32 := Scalar.addi v685 c0_i32_910
  let v687 : Index := Scalar.indexCast v686
  let c512_911 : Index := 512#32
  ![v687.toNat, 512]
def k0_dev23 (d0 : Dev nD) : Nat :=
  let c0_i32_925 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_924 : BitVec 32 := 1#32
  let v689 : BitVec 32 := Scalar.muli v24 c1_i32_924
  let v690 : BitVec 32 := Scalar.addi c0_i32_925 v689
  v690.toNat
def k0_off7 (d0 : Dev nD) (c0_i32_951 : BitVec 32) (c0_i32_959 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v710 : BitVec 32 := Scalar.addi v2 c0_i32_951
  let c4_i32_952 : BitVec 32 := 4#32
  let c0_i32_953 : BitVec 32 := 0#32
  let v711 : BitVec 1 := Scalar.cmpi .eq c4_i32_952 c0_i32_953
  let c1_i32_954 : BitVec 32 := 1#32
  let v712 : BitVec 32 := Scalar.select v711 c1_i32_954 c4_i32_952
  let v713 : BitVec 32 := Scalar.remsi v710 v712
  let c0_i32_956 : BitVec 32 := 0#32
  let v715 : BitVec 1 := Scalar.cmpi .slt v713 c0_i32_956
  let c0_i32_957 : BitVec 32 := 0#32
  let v716 : BitVec 1 := Scalar.cmpi .slt v712 c0_i32_957
  let v717 : BitVec 1 := Scalar.xori v715 v716
  let c0_i32_955 : BitVec 32 := 0#32
  let v714 : BitVec 1 := Scalar.cmpi .ne v713 c0_i32_955
  let v718 : BitVec 1 := Scalar.andi v717 v714
  let v719 : BitVec 32 := Scalar.addi v713 v712
  let v720 : BitVec 32 := Scalar.select v718 v719 v713
  let c256_i32_958 : BitVec 32 := 256#32
  let v721 : BitVec 32 := Scalar.muli v720 c256_i32_958
  let v722 : BitVec 32 := Scalar.addi v721 c0_i32_959
  let v723 : Index := Scalar.indexCast v722
  let c0_960 : Index := 0#32
  ![v723.toNat, 0]
def k0_dev24 (d0 : Dev nD) : Nat :=
  let c0_i32_974 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_973 : BitVec 32 := 1#32
  let v725 : BitVec 32 := Scalar.muli v13 c1_i32_973
  let v726 : BitVec 32 := Scalar.addi c0_i32_974 v725
  v726.toNat
def k0_dev25 (d0 : Dev nD) : Nat :=
  let c0_i32_1023 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1022 : BitVec 32 := 1#32
  let v761 : BitVec 32 := Scalar.muli v24 c1_i32_1022
  let v762 : BitVec 32 := Scalar.addi c0_i32_1023 v761
  v762.toNat
def k0_dev26 (d0 : Dev nD) : Nat :=
  let c0_i32_1072 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1071 : BitVec 32 := 1#32
  let v797 : BitVec 32 := Scalar.muli v13 c1_i32_1071
  let v798 : BitVec 32 := Scalar.addi c0_i32_1072 v797
  v798.toNat
def k0_dev27 (d0 : Dev nD) : Nat :=
  let c0_i32_1121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1120 : BitVec 32 := 1#32
  let v833 : BitVec 32 := Scalar.muli v24 c1_i32_1120
  let v834 : BitVec 32 := Scalar.addi c0_i32_1121 v833
  v834.toNat
def k0_dev28 (d0 : Dev nD) : Nat :=
  let c0_i32_1170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1169 : BitVec 32 := 1#32
  let v869 : BitVec 32 := Scalar.muli v13 c1_i32_1169
  let v870 : BitVec 32 := Scalar.addi c0_i32_1170 v869
  v870.toNat
def k0_dev29 (d0 : Dev nD) : Nat :=
  let c0_i32_1218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1217 : BitVec 32 := 1#32
  let v905 : BitVec 32 := Scalar.muli v24 c1_i32_1217
  let v906 : BitVec 32 := Scalar.addi c0_i32_1218 v905
  v906.toNat
def k0_dev30 (d0 : Dev nD) : Nat :=
  let c0_i32_1267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1266 : BitVec 32 := 1#32
  let v941 : BitVec 32 := Scalar.muli v13 c1_i32_1266
  let v942 : BitVec 32 := Scalar.addi c0_i32_1267 v941
  v942.toNat
def k0_dev31 (d0 : Dev nD) : Nat :=
  let c0_i32_1318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1317 : BitVec 32 := 1#32
  let v977 : BitVec 32 := Scalar.muli v24 c1_i32_1317
  let v978 : BitVec 32 := Scalar.addi c0_i32_1318 v977
  v978.toNat
def k0_dev32 (d0 : Dev nD) : Nat :=
  let c0_i32_1369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1368 : BitVec 32 := 1#32
  let v1013 : BitVec 32 := Scalar.muli v13 c1_i32_1368
  let v1014 : BitVec 32 := Scalar.addi c0_i32_1369 v1013
  v1014.toNat
def k0_dev33 (d0 : Dev nD) : Nat :=
  let c0_i32_1420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1419 : BitVec 32 := 1#32
  let v1049 : BitVec 32 := Scalar.muli v24 c1_i32_1419
  let v1050 : BitVec 32 := Scalar.addi c0_i32_1420 v1049
  v1050.toNat
def k0_dev34 (d0 : Dev nD) : Nat :=
  let c0_i32_1471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1470 : BitVec 32 := 1#32
  let v1085 : BitVec 32 := Scalar.muli v13 c1_i32_1470
  let v1086 : BitVec 32 := Scalar.addi c0_i32_1471 v1085
  v1086.toNat
def k0_dev35 (d0 : Dev nD) : Nat :=
  let c0_i32_1522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1521 : BitVec 32 := 1#32
  let v1121 : BitVec 32 := Scalar.muli v24 c1_i32_1521
  let v1122 : BitVec 32 := Scalar.addi c0_i32_1522 v1121
  v1122.toNat
def k0_dev36 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1572 : BitVec 32 := 1#32
  let v1157 : BitVec 32 := Scalar.muli v13 c1_i32_1572
  let v1158 : BitVec 32 := Scalar.addi c0_i32_1573 v1157
  v1158.toNat
def k0_dev37 (d0 : Dev nD) : Nat :=
  let c0_i32_1624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1623 : BitVec 32 := 1#32
  let v1193 : BitVec 32 := Scalar.muli v24 c1_i32_1623
  let v1194 : BitVec 32 := Scalar.addi c0_i32_1624 v1193
  v1194.toNat
def k0_dev38 (d0 : Dev nD) : Nat :=
  let c0_i32_1675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1674 : BitVec 32 := 1#32
  let v1229 : BitVec 32 := Scalar.muli v13 c1_i32_1674
  let v1230 : BitVec 32 := Scalar.addi c0_i32_1675 v1229
  v1230.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S_, .f32⟩
  | .hbm, ⟨5, _⟩ => ⟨S1024x8192, .f32⟩
  | .hbm, ⟨6, _⟩ => ⟨S1024x8192, .f32⟩
  | .hbm, ⟨7, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Events.lean ====
/-
The kernel as a short list of events.

The printed kernel body is one long straight line of memory operations, printed in some seventy pieces. Here the
same line is written down again by the handful of things it does — compute a partial product, send a block to a
neighbour, wait for a block to arrive, add to it, write a piece of the result — each said once at symbolic indices, and
as a list of those events in program order. `body_eq` says that the printed body on the kernel's buffers is that list.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Kit
public import Idealize.ShloMosaic.Lib.Tactic

@[expose] public section

noncomputable section

namespace Cert.RingK

open Cert.KernelIdeal Cert.KernelIdeal.Gen

open Idealize.ShloMosaic Idealize.ShloMosaic.TcCoe
open Idealize.SL Idealize.SL.Sem

variable {F : FTy → Type} [FloatOps F]

/-! ## The buffers -/

abbrev xM : Memref sig .tc .vmem S1024x1024 .f32 := Memref.whole cc0_stg0_0
abbrev w1M : Memref sig .tc .vmem S1024x2048 .f32 := Memref.whole cc0_stg1_0
abbrev w2M : Memref sig .tc .vmem S2048x1024 .f32 := Memref.whole cc0_stg2_0
abbrev outM : Memref sig .tc .vmem S1024x1024 .f32 := Memref.whole cc0_stg3_0
abbrev pcM : Memref sig .tc .vmem S3x256x1024 .f32 := Memref.whole cc0_scratch0
abbrev sbM : Memref sig .tc .vmem S2x3x2x128x512 .bf16 := Memref.whole cc0_scratch1
abbrev rsM : Memref sig .tc .vmem S2x3x2x128x512 .bf16 := Memref.whole cc0_scratch2
abbrev ownM : Memref sig .tc .vmem S2x256x512 .bf16 := Memref.whole cc0_scratch3
abbrev agM : Memref sig .tc .vmem S2x3x4x64x512 .bf16 := Memref.whole cc0_scratch4

/-! ## The rectangles the kernel reads and writes, at symbolic indices -/

theorem rsRect_inb (d : Fin 2) (s : Fin 3) (j : Fin 2) :
    ∀ a, (![d.val, s.val, j.val, 0, 0] : Fin 5 → Nat) a + S1x1x1x128x512.size a ≤ S2x3x2x128x512.size a := by
  revert d s j; decide

/-- Slot `(d, s, j)` of the reduce-scatter buffers: 128 rows of 512 columns. -/
abbrev rsRect (d : Fin 2) (s : Fin 3) (j : Fin 2) : Rect S2x3x2x128x512 :=
  Rect.unit (s := S2x3x2x128x512) ![d.val, s.val, j.val, 0, 0] S1x1x1x128x512.size (rsRect_inb d s j)

theorem rsRect_packed (d : Fin 2) (s : Fin 3) (j : Fin 2) : (rsRect d s j).PackedRows (EltTy.packing .bf16) := by
  revert d s j; decide
theorem rsRect_words (d : Fin 2) (s : Fin 3) (j : Fin 2) : (rsRect d s j).WholeWords (EltTy.packing .bf16) := by
  revert d s j; decide

theorem agRect_inb (d : Fin 2) (t : Fin 3) (q : Fin 4) :
    ∀ a, (![d.val, t.val, q.val, 0, 0] : Fin 5 → Nat) a + S1x1x1x64x512.size a ≤ S2x3x4x64x512.size a := by
  revert d t q; decide

/-- Slot `(d, t, q)` of the all-gather buffer: 64 rows of 512 columns. -/
abbrev agRect (d : Fin 2) (t : Fin 3) (q : Fin 4) : Rect S2x3x4x64x512 :=
  Rect.unit (s := S2x3x4x64x512) ![d.val, t.val, q.val, 0, 0] S1x1x1x64x512.size (agRect_inb d t q)

theorem agRect_words (d : Fin 2) (t : Fin 3) (q : Fin 4) : (agRect d t q).WholeWords (EltTy.packing .bf16) := by
  revert d t q; decide

theorem ownQ_inb (d : Fin 2) (q : Fin 4) :
    ∀ a, (![d.val, 64 * q.val, 0] : Fin 3 → Nat) a + S1x64x512.size a ≤ S2x256x512.size a := by revert d q; decide

/-- Quarter `q` (64 rows) of half `d` of the device's own sums. -/
abbrev ownQ (d : Fin 2) (q : Fin 4) : Rect S2x256x512 :=
  Rect.unit (s := S2x256x512) ![d.val, 64 * q.val, 0] S1x64x512.size (ownQ_inb d q)

theorem ownQ_words (d : Fin 2) (q : Fin 4) : (ownQ d q).WholeWords (EltTy.packing .bf16) := by revert d q; decide

theorem ownJ_inb (d : Fin 2) (j : Fin 2) :
    ∀ a, (![d.val, 128 * j.val, 0] : Fin 3 → Nat) a + S1x128x512.size a ≤ S2x256x512.size a := by revert d j; decide

/-- Rows `128 j` to `128 j + 127` of half `d` of the device's own sums: two quarters. -/
abbrev ownJ (d : Fin 2) (j : Fin 2) : Rect S2x256x512 :=
  Rect.unit (s := S2x256x512) ![d.val, 128 * j.val, 0] S1x128x512.size (ownJ_inb d j)

theorem ownJ_packed (d : Fin 2) (j : Fin 2) : (ownJ d j).PackedRows (EltTy.packing .bf16) := by revert d j; decide

theorem pcJ_inb (i : Fin 3) (j : Fin 2) :
    ∀ a, (![i.val, 128 * j.val, 0] : Fin 3 → Nat) a + S1x128x1024.size a ≤ S3x256x1024.size a := by revert i j; decide

/-- Rows `128 j` on of kept partial product `i`, all 1024 columns. -/
abbrev pcJ (i : Fin 3) (j : Fin 2) : Rect S3x256x1024 :=
  Rect.unit (s := S3x256x1024) ![i.val, 128 * j.val, 0] S1x128x1024.size (pcJ_inb i j)

theorem pcH_inb (i : Fin 3) (j d : Fin 2) :
    ∀ a, (![i.val, 128 * j.val, 512 * (1 - d.val)] : Fin 3 → Nat) a + S1x128x512.size a ≤ S3x256x1024.size a := by
  revert i j d; decide

/-- The 512 columns of that travelling in direction `d`: the right half for `0`, the left half for `1`. -/
abbrev pcH (i : Fin 3) (j d : Fin 2) : Rect S3x256x1024 :=
  Rect.unit (s := S3x256x1024) ![i.val, 128 * j.val, 512 * (1 - d.val)] S1x128x512.size (pcH_inb i j d)

abbrev w1Rect : Rect S1024x2048 := Rect.unit (s := S1024x2048) ![0, 0] S1024x2048.size inb_S1024x2048_S1024x2048_0_0
abbrev w2Rect : Rect S2048x1024 := Rect.unit (s := S2048x1024) ![0, 0] S2048x1024.size inb_S2048x1024_S2048x1024_0_0

/-- Where the rows of `x` start that a partial product is computed from: the rows `128 j` on of the chunk `e` places
    after the device's own. -/
def xOff (c : Dev nD) (j : Fin 2) : Fin 4 → Fin 2 → Nat
  | 0 => k0_off1 c (BitVec.ofNat 32 (128 * j.val))
  | 1 => k0_off3 c 1#32 (BitVec.ofNat 32 (128 * j.val))
  | 2 => k0_off3 c 2#32 (BitVec.ofNat 32 (128 * j.val))
  | 3 => k0_off2 c (BitVec.ofNat 32 (128 * j.val))

theorem xOff_inb (c : Dev nD) (j : Fin 2) : ∀ e : Fin 4, ∀ a, xOff c j e a + S128x1024.size a ≤ S1024x1024.size a
  | 0 => k0_off1_inb c j
  | 1 => k0_off3_inb c 0 j
  | 2 => k0_off3_inb c 1 j
  | 3 => k0_off2_inb c j

abbrev xRect (c : Dev nD) (j : Fin 2) (e : Fin 4) : Rect S1024x1024 :=
  Rect.unit (s := S1024x1024) (xOff c j e) S128x1024.size (xOff_inb c j e)

/-- Which chunk the kept partial product in slot `i` is of, counted from the device's own. -/
def keptOf : Fin 3 → Fin 4
  | 0 => 3
  | 1 => 1
  | 2 => 2

/-- Where a half block of the device's own sums lands in the result. -/
def ownOff (c : Dev nD) (j : Fin 2) : Fin 2 → Fin 2 → Nat
  | 0 => k0_off4 c (BitVec.ofNat 32 (128 * j.val))
  | 1 => k0_off5 c (BitVec.ofNat 32 (128 * j.val))

theorem ownOff_inb (c : Dev nD) (j : Fin 2) : ∀ d : Fin 2, ∀ a, ownOff c j d a + S128x512.size a ≤ S1024x1024.size a
  | 0 => k0_off4_inb c j
  | 1 => k0_off5_inb c j

abbrev ownRect (c : Dev nD) (d j : Fin 2) : Rect S1024x1024 :=
  Rect.unit (s := S1024x1024) (ownOff c j d) S128x512.size (ownOff_inb c j d)

/-- Where a gathered block lands in the result. -/
def gatOff (c : Dev nD) (t : Fin 3) (q : Fin 4) : Fin 2 → Fin 2 → Nat
  | 0 => k0_off6 c (BitVec.ofNat 32 t.val) (BitVec.ofNat 32 (64 * q.val))
  | 1 => k0_off7 c (BitVec.ofNat 32 t.val) (BitVec.ofNat 32 (64 * q.val))

theorem gatOff_inb (c : Dev nD) (t : Fin 3) (q : Fin 4) :
    ∀ d : Fin 2, ∀ a, gatOff c t q d a + S64x512.size a ≤ S1024x1024.size a
  | 0 => k0_off6_inb c t q
  | 1 => k0_off7_inb c t q

abbrev gatRect (c : Dev nD) (d : Fin 2) (t : Fin 3) (q : Fin 4) : Rect S1024x1024 :=
  Rect.unit (s := S1024x1024) (gatOff c t q d) S64x512.size (gatOff_inb c t q d)

/-! ## The transfers

Thirty-six of them: twelve of the reduce-scatter, named by direction, step and half, and twenty-four of the
all-gather, named by direction, step and quarter. Direction `0` goes to the next device and carries the right half of
the columns, direction `1` to the previous one with the left half. -/

abbrev Tr : Type := (Fin 2 × Fin 3 × Fin 2) ⊕ (Fin 2 × Fin 3 × Fin 4)

/-- A transfer's direction. -/
def dirOf : Tr → Fin 2
  | .inl k => k.1
  | .inr k => k.1

/-- The shape of the block it moves. -/
abbrev shp : Tr → Shape
  | .inl _ => S128x512
  | .inr _ => S64x512

/-- The block it reads. -/
def srcV : (k : Tr) → Memref sig .tc .vmem (shp k) .bf16
  | .inl (d, s, j) => (sbM.slice (rsRect d s j) (fun _ => rfl)).squeeze S128x512 squeezes_S1x1x1x128x512_S128x512
  | .inr (d, 0, q) => (ownM.slice (ownQ d q) (fun _ => rfl)).squeeze S64x512 squeezes_S1x64x512_S64x512
  | .inr (d, 1, q) => (agM.slice (agRect d 0 q) (fun _ => rfl)).squeeze S64x512 squeezes_S1x1x1x64x512_S64x512
  | .inr (d, 2, q) => (agM.slice (agRect d 1 q) (fun _ => rfl)).squeeze S64x512 squeezes_S1x1x1x64x512_S64x512

/-- The block it writes, on the receiving device. -/
def dstV : (k : Tr) → Memref sig .tc .vmem (shp k) .bf16
  | .inl (d, s, j) => (rsM.slice (rsRect d s j) (fun _ => rfl)).squeeze S128x512 squeezes_S1x1x1x128x512_S128x512
  | .inr (d, t, q) => (agM.slice (agRect d t q) (fun _ => rfl)).squeeze S64x512 squeezes_S1x1x1x64x512_S64x512

theorem srcV_words : ∀ k : Tr, (srcV k).view.WordExact
  | .inl (d, s, j) => ((Memref.isWhole_whole cc0_scratch1).wordExact_slice rfl _ (rsRect_words d s j)).reshape _ _
  | .inr (d, 0, q) => ((Memref.isWhole_whole cc0_scratch3).wordExact_slice rfl _ (ownQ_words d q)).reshape _ _
  | .inr (d, 1, q) => ((Memref.isWhole_whole cc0_scratch4).wordExact_slice rfl _ (agRect_words d 0 q)).reshape _ _
  | .inr (d, 2, q) => ((Memref.isWhole_whole cc0_scratch4).wordExact_slice rfl _ (agRect_words d 1 q)).reshape _ _

theorem dstV_words : ∀ k : Tr, (dstV k).view.WordExact
  | .inl (d, s, j) => ((Memref.isWhole_whole cc0_scratch2).wordExact_slice rfl _ (rsRect_words d s j)).reshape _ _
  | .inr (d, t, q) => ((Memref.isWhole_whole cc0_scratch4).wordExact_slice rfl _ (agRect_words d t q)).reshape _ _

theorem rsSem_inb (d : Fin 2) (s : Fin 3) (j : Fin 2) :
    ∀ a, (![d.val, s.val, j.val] : Fin 3 → Nat) a + S1x1x1.size a ≤ S2x3x2.size a := by revert d s j; decide
theorem agSem_inb (d : Fin 2) (t : Fin 3) (q : Fin 4) :
    ∀ a, (![d.val, t.val, q.val] : Fin 3 → Nat) a + S1x1x1.size a ≤ S2x3x4.size a := by revert d t q; decide

/-- The semaphore its departure is counted on. -/
def sSem : Tr → DmaSem sig
  | .inl (d, s, j) => ((cc0_scratch5.slice (Rect.unit (s := S2x3x2) ![d.val, s.val, j.val] S1x1x1.size (rsSem_inb d s j))).squeeze S_ squeezes_S1x1x1_S_).sem
  | .inr (d, t, q) => ((cc0_scratch7.slice (Rect.unit (s := S2x3x4) ![d.val, t.val, q.val] S1x1x1.size (agSem_inb d t q))).squeeze S_ squeezes_S1x1x1_S_).sem

/-- The semaphore its arrival is counted on, at the receiving device. -/
def rSem : Tr → DmaSem sig
  | .inl (d, s, j) => ((cc0_scratch6.slice (Rect.unit (s := S2x3x2) ![d.val, s.val, j.val] S1x1x1.size (rsSem_inb d s j))).squeeze S_ squeezes_S1x1x1_S_).sem
  | .inr (d, t, q) => ((cc0_scratch8.slice (Rect.unit (s := S2x3x4) ![d.val, t.val, q.val] S1x1x1.size (agSem_inb d t q))).squeeze S_ squeezes_S1x1x1_S_).sem

/-- The device it is addressed to, as the program computes it. -/
def tgt (c : Dev nD) : Tr → Dev nD
  | .inl (d, s, j) => (![![![⟨k0_dev3 c, k0_dev3_lt c⟩, ⟨k0_dev5 c, k0_dev5_lt c⟩], ![⟨k0_dev7 c, k0_dev7_lt c⟩, ⟨k0_dev9 c, k0_dev9_lt c⟩], ![⟨k0_dev11 c, k0_dev11_lt c⟩, ⟨k0_dev13 c, k0_dev13_lt c⟩]], ![![⟨k0_dev4 c, k0_dev4_lt c⟩, ⟨k0_dev6 c, k0_dev6_lt c⟩], ![⟨k0_dev8 c, k0_dev8_lt c⟩, ⟨k0_dev10 c, k0_dev10_lt c⟩], ![⟨k0_dev12 c, k0_dev12_lt c⟩, ⟨k0_dev14 c, k0_dev14_lt c⟩]]]) d s j
  | .inr (d, t, q) => (![![![⟨k0_dev15 c, k0_dev15_lt c⟩, ⟨k0_dev16 c, k0_dev16_lt c⟩, ⟨k0_dev19 c, k0_dev19_lt c⟩, ⟨k0_dev20 c, k0_dev20_lt c⟩], ![⟨k0_dev23 c, k0_dev23_lt c⟩, ⟨k0_dev25 c, k0_dev25_lt c⟩, ⟨k0_dev27 c, k0_dev27_lt c⟩, ⟨k0_dev29 c, k0_dev29_lt c⟩], ![⟨k0_dev31 c, k0_dev31_lt c⟩, ⟨k0_dev33 c, k0_dev33_lt c⟩, ⟨k0_dev35 c, k0_dev35_lt c⟩, ⟨k0_dev37 c, k0_dev37_lt c⟩]], ![![⟨k0_dev17 c, k0_dev17_lt c⟩, ⟨k0_dev18 c, k0_dev18_lt c⟩, ⟨k0_dev21 c, k0_dev21_lt c⟩, ⟨k0_dev22 c, k0_dev22_lt c⟩], ![⟨k0_dev24 c, k0_dev24_lt c⟩, ⟨k0_dev26 c, k0_dev26_lt c⟩, ⟨k0_dev28 c, k0_dev28_lt c⟩, ⟨k0_dev30 c, k0_dev30_lt c⟩], ![⟨k0_dev32 c, k0_dev32_lt c⟩, ⟨k0_dev34 c, k0_dev34_lt c⟩, ⟨k0_dev36 c, k0_dev36_lt c⟩, ⟨k0_dev38 c, k0_dev38_lt c⟩]]]) d t q

/-! ## The events -/

abbrev P (F : FTy → Type) [FloatOps F] : Type 1 := Prog (TpuEff nD τ sig (Elt F) Λ₀ .tc) PUnit

/-- The barrier semaphore. -/
abbrev barS : Sem sig := (SemArray.scalar (sig.barrier 0 rfl) : Sems sig S_).sem

/-- Send block `k`. -/
def pSend (c : Dev nD) (k : Tr) (p : P F) : P F :=
  .op (.enqueueDma (srcV k) (.remote (Dev.tc (tgt c k)) (dstV k) (.dma (sSem k))) (.dma (rSem k)) (srcV_words k) (dstV_words k)
    ⟨⟨rfl, Or.inl rfl⟩, trivial⟩) fun _ => p

/-- Wait for block `k` to arrive. -/
def pRecv (k : Tr) (p : P F) : P F := .op (.waitDma2 (rSem k) (srcV k) (dstV k) (srcV_words k) (dstV_words k)) fun _ => p

/-- Wait for block `k` to have left. -/
def pGone (k : Tr) (p : P F) : P F := .op (.waitDma2 (sSem k) (dstV k) (srcV k) (dstV_words k) (srcV_words k)) fun _ => p

/-- Write a value into slot `(d, s, j)` of the send buffer (the slot is read first and the value dropped). -/
def pPut (d : Fin 2) (s : Fin 3) (j : Fin 2) (v : FVec F S1x1x1x128x512 .bf16) (p : P F) : P F :=
  .op (.load sbM (rsRect d s j).toLoadRect (View.loadsAt_vmem h_S1x1x1x128x512)) fun _ =>
  .op (.store sbM (rsRect d s j) v Finset.univ (View.stores_vmem h_S1x1x1x128x512
    ((Memref.isWhole_whole cc0_scratch1).storeExact_slice rfl _ (rsRect_packed d s j)) (fun _ => rfl)) (.inl rfl)) fun _ => p

/-- The partial product of 128 rows, from what is read of `x`, `W1` and `W2`. -/
def partV (x : Vec F S128x1024 .f32) (w1 : Vec F S1024x2048 .f32) (w2 : Vec F S2048x1024 .f32) : FVec F S128x1024 .f32 :=
  k0_pay2 (k0_pay1 x) w1 w2

/-- Its half of columns for direction `d`, as sent. -/
def firstV (p : FVec F S128x1024 .f32) : Fin 2 → FVec F S1x1x1x128x512 .bf16
  | 0 => k0_pay8 (truncf .bf16 (extractStridedSlice S128x512 ![0, 512] p slices_S128x1024_o0_512_S128x512) bitsLt_bf16_f32)
  | 1 => k0_pay9 p

/-- Read the operands of a partial product. -/
def pRead (c : Dev nD) (j : Fin 2) (e : Fin 4) (p : Vec F S128x1024 .f32 → Vec F S1024x2048 .f32 → Vec F S2048x1024 .f32 → P F) : P F :=
  .op (.load xM (xRect c j e).toLoadRect (View.loadsAt_vmem h_S128x1024)) fun x =>
  .op (.load w1M w1Rect.toLoadRect (View.loadsAt_vmem h_S1024x2048)) fun w1 =>
  .op (.load w2M w2Rect.toLoadRect (View.loadsAt_vmem h_S2048x1024)) fun w2 => p x w1 w2

/-- The first partial product, of the device's own chunk, sent off in both directions. -/
def pFirst (c : Dev nD) (j : Fin 2) (p : P F) : P F :=
  pRead c j 0 fun x w1 w2 =>
  pPut 0 0 j (firstV (partV x w1 w2) 0) <| pSend c (.inl (0, 0, j)) <|
  pPut 1 0 j (firstV (partV x w1 w2) 1) <| pSend c (.inl (1, 0, j)) p

/-- A partial product kept in slot `i`. -/
def pPart (c : Dev nD) (i : Fin 3) (j : Fin 2) (p : P F) : P F :=
  pRead c j (keptOf i) fun x w1 w2 =>
  .op (.load pcM (pcJ i j).toLoadRect (View.loadsAt_vmem h_S1x128x1024)) fun _ =>
  .op (.store pcM (pcJ i j) (k0_pay10 x w1 w2) Finset.univ (View.stores_vmem_bits_univ h_S1x128x1024 rfl) (.inl rfl)) fun _ => p

/-- The kept slot that step `s` of direction `d` adds. -/
def accSlot (d : Fin 2) : Fin 2 → Fin 3
  | 0 => d.castSucc
  | 1 => 2

/-- Add what step `s` brought to the kept partial product, and write it to be sent on. -/
def pAcc (d s j : Fin 2) (p : P F) : P F :=
  .op (.load pcM (pcH (accSlot d s) j d).toLoadRect (View.loadsAt_vmem h_S1x128x512)) fun a =>
  .op (.load rsM (rsRect d s.castSucc j).toLoadRect (View.loadsAt_vmem h_S1x1x1x128x512)) fun b =>
  pPut d s.succ j (k0_pay11 a b) p

/-- The kept slot a device's own sums end with. -/
def ownSlot : Fin 2 → Fin 3
  | 0 => 1
  | 1 => 0

/-- A half block of a device's own sums. -/
def ownV (a : Vec F S1x128x1024 .f32) (b : Vec F S1x1x1x128x512 .bf16) : Fin 2 → FVec F S128x512 .f32
  | 0 => k0_pay34 a b
  | 1 => k0_pay37 (k0_pay36 a) b

/-- The same as it is sent round. -/
def ownBf (v : FVec F S128x512 .f32) : FVec F S1x128x512 .bf16 := k0_pay40 v

/-- Finish the device's own sums: into the result, and into the buffer they are sent round from. -/
def pOwn (c : Dev nD) (d j : Fin 2) (p : P F) : P F :=
  .op (.load pcM (pcJ (ownSlot d) j).toLoadRect (View.loadsAt_vmem h_S1x128x1024)) fun a =>
  .op (.load rsM (rsRect d 2 j).toLoadRect (View.loadsAt_vmem h_S1x1x1x128x512)) fun b =>
  .op (.load outM (ownRect c d j).toLoadRect (View.loadsAt_vmem h_S128x512)) fun _ =>
  .op (.store outM (ownRect c d j) (ownV a b d) Finset.univ (View.stores_vmem_bits_univ h_S128x512 rfl) (.inl rfl)) fun _ =>
  .op (.load ownM (ownJ d j).toLoadRect (View.loadsAt_vmem h_S1x128x512)) fun _ =>
  .op (.store ownM (ownJ d j) (ownBf (ownV a b d)) Finset.univ (View.stores_vmem h_S1x128x512
    ((Memref.isWhole_whole cc0_scratch3).storeExact_slice rfl _ (ownJ_packed d j)) (fun _ => rfl)) (.inl rfl)) fun _ => p

/-- A gathered block as it is written into the result. -/
def gatV (v : Vec F S1x1x1x64x512 .bf16) : FVec F S64x512 .f32 := k0_pay44 v

/-- Write a gathered block into the result. -/
def pGat (c : Dev nD) (d : Fin 2) (t : Fin 3) (q : Fin 4) (p : P F) : P F :=
  .op (.load agM (agRect d t q).toLoadRect (View.loadsAt_vmem h_S1x1x1x64x512)) fun b =>
  .op (.load outM (gatRect c d t q).toLoadRect (View.loadsAt_vmem h_S64x512)) fun _ =>
  .op (.store outM (gatRect c d t q) (gatV b) Finset.univ (View.stores_vmem_bits_univ h_S64x512 rfl) (.inl rfl)) fun _ => p

/-- What the kernel does between its handshake and its end. -/
inductive Ev where
  | first (j : Fin 2)
  | part (i : Fin 3) (j : Fin 2)
  | acc (d s j : Fin 2)
  | own (d j : Fin 2)
  | gat (d : Fin 2) (t : Fin 3) (q : Fin 4)
  | send (k : Tr)
  | recv (k : Tr)
  | gone (k : Tr)

def evP (c : Dev nD) : Ev → P F → P F
  | .first j, p => pFirst c j p
  | .part i j, p => pPart c i j p
  | .acc d s j, p => pAcc d s j p
  | .own d j, p => pOwn c d j p
  | .gat d t q, p => pGat c d t q p
  | .send k, p => pSend c k p
  | .recv k, p => pRecv k p
  | .gone k, p => pGone k p

def runEvs (c : Dev nD) (evs : List Ev) : P F := evs.foldr (evP c) (.ret ⟨⟩)

/-- A step of the reduce-scatter: the block arrives, the kept product is added, the sum goes on. -/
abbrev accEvs (d s j : Fin 2) : List Ev := [.recv (.inl (d, s.castSucc, j)), .acc d s j, .send (.inl (d, s.succ, j))]

/-- The end of the reduce-scatter: the last block arrives, the own sums are finished and two quarters sent round. -/
abbrev ownEvs (d j : Fin 2) (q q' : Fin 4) : List Ev :=
  [.recv (.inl (d, 2, j)), .own d j, .send (.inr (d, 0, q)), .send (.inr (d, 0, q'))]

/-- A step of the all-gather that passes its block on. -/
abbrev passEvs (t : Fin 2) (d : Fin 2) (q : Fin 4) : List Ev :=
  [.recv (.inr (d, t.castSucc, q)), .gat d t.castSucc q, .send (.inr (d, t.succ, q))]

/-- The last step of the all-gather. -/
abbrev lastEvs (d : Fin 2) (q : Fin 4) : List Ev := [.recv (.inr (d, 2, q)), .gat d 2 q]

/-- A list over the quarters, both directions of each in turn. -/
abbrev eachQ (f : Fin 2 → Fin 4 → List Ev) : List Ev :=
  f 0 0 ++ (f 1 0 ++ (f 0 1 ++ (f 1 1 ++ (f 0 2 ++ (f 1 2 ++ (f 0 3 ++ f 1 3))))))

/-- The two halves in turn, both directions of each. -/
abbrev eachJ (f : Fin 2 → Fin 2 → List Ev) : List Ev := f 0 0 ++ (f 1 0 ++ (f 0 1 ++ f 1 1))

/-- The kernel's events in program order. -/
def events : List Ev :=
  [.first 0, .first 1]
  ++ ([.part 0 0] ++ (accEvs 0 0 0 ++ ([.part 1 0] ++ (accEvs 1 0 0
  ++ ([.part 0 1] ++ (accEvs 0 0 1 ++ ([.part 1 1] ++ (accEvs 1 0 1
  ++ ([.part 2 0] ++ (accEvs 0 1 0 ++ (accEvs 1 1 0
  ++ ([.part 2 1] ++ (accEvs 0 1 1 ++ (accEvs 1 1 1
  ++ (ownEvs 0 0 0 1 ++ (ownEvs 1 0 0 1 ++ (ownEvs 0 1 2 3 ++ (ownEvs 1 1 2 3
  ++ (eachQ (passEvs 0) ++ (eachQ (passEvs 1) ++ (eachQ lastEvs
  ++ (eachJ (fun d j => [.gone (.inl (d, 0, j))]) ++ (eachJ (fun d j => [.gone (.inl (d, 1, j))])
  ++ (eachJ (fun d j => [.gone (.inl (d, 2, j))])
  ++ ([.gone (.inr (0, 0, 0)), .gone (.inr (0, 0, 1)), .gone (.inr (1, 0, 0)), .gone (.inr (1, 0, 1)),
       .gone (.inr (0, 0, 2)), .gone (.inr (0, 0, 3)), .gone (.inr (1, 0, 2)), .gone (.inr (1, 0, 3))]
  ++ (eachQ (fun d q => [.gone (.inr (d, 1, q))]) ++ eachQ (fun d q => [.gone (.inr (d, 2, q))])))))))))))))))))))))))))))

/-- The whole body: both neighbours are told that this device has started, it waits until both have told it so, and
    the events run. -/
def kernelP : P F :=
  .op .deviceId fun c =>
  .op (.semSignal (Dev.tc (⟨k0_dev1 c, k0_dev1_lt c⟩ : Dev nD)) barS (1#32 : BitVec 32).toInt) fun _ =>
  .op (.semSignal (Dev.tc (⟨k0_dev2 c, k0_dev2_lt c⟩ : Dev nD)) barS (1#32 : BitVec 32).toInt) fun _ =>
  .op (.semWait barS (2#32 : BitVec 32).toInt) fun _ => runEvs c events

set_option maxRecDepth 65536 in
set_option maxHeartbeats 4000000 in
/-- The printed body, on the kernel's buffers, is the list of events. -/
theorem body_eq (t : Fin cfg0.N) : bodyAt0 (F := F) t = kernelP := rfl

end Cert.RingK
end
-- ==== Proof.Values.lean ====
/-
What every block the kernel computes, sends and writes holds.

Device `c` starts from its arguments' blocks in its staging buffers (`Args`). Each kept partial product, each sum
travelling round the ring in the reduce-scatter, each device's own finished sum and each block of the all-gather is a
function of those: `pcC`, `ownC` and `outC` are the contents of the three buffers that are filled piece by piece, and
`blk k c` is the block that transfer `k` carries away from device `c`.
-/
module

public import proofs.«01_k».proof.Proof.Events
public import Idealize.ShloMosaic.Lib.ValueIdxCore
public import Idealize.ShloMosaic.Lib.ViewIndex
public import Idealize.ShloMosaic.Lib.Pipeline.Value

@[expose] public section

noncomputable section

namespace Cert.RingK

open Cert.KernelIdeal Cert.KernelIdeal.Gen

open Idealize.ShloMosaic Idealize.ShloMosaic.TcCoe Idealize.ShloMosaic.ValueIdx
open Idealize.SL Idealize.SL.Sem

variable {F : FTy → Type} [FloatOps F]

/-! ## The ring -/

/-- The device that direction `d` sends to: the next one for `0`, the previous one for `1`. -/
def nb (d : Fin 2) (c : Dev nD) : Dev nD := ⟨(c.val + 1 + 2 * d.val) % 4, Nat.mod_lt _ (show 0 < 4 by decide)⟩

/-- The other direction. -/
def opp (d : Fin 2) : Fin 2 := 1 - d

theorem nb_opp (d : Fin 2) (c : Dev nD) : nb (opp d) (nb d c) = c := by revert d c; decide
theorem nb_nb_opp (d : Fin 2) (c : Dev nD) : nb d (nb (opp d) c) = c := by revert d c; decide

/-- The ring turned one place in direction `d`. -/
def ring (d : Fin 2) : Dev nD ≃ Dev nD := ⟨nb d, nb (opp d), nb_opp d, nb_nb_opp d⟩

theorem dev1_eq (c : Dev nD) : (⟨k0_dev1 c, k0_dev1_lt c⟩ : Dev nD) = nb 1 c := by revert c; decide
theorem dev2_eq (c : Dev nD) : (⟨k0_dev2 c, k0_dev2_lt c⟩ : Dev nD) = nb 0 c := by revert c; decide
theorem tgt_eq (c : Dev nD) (k : Tr) : tgt c k = nb (dirOf k) c := by revert c k; decide +kernel

/-! ## The arguments -/

/-- What the four devices hold of the three arguments in their staging buffers. -/
structure Args (F : FTy → Type) where
  x : Dev nD → (cc0_stg0_0 : Ref sig .tc).ty.Contents (Elt F)
  w1 : Dev nD → (cc0_stg1_0 : Ref sig .tc).ty.Contents (Elt F)
  w2 : Dev nD → (cc0_stg2_0 : Ref sig .tc).ty.Contents (Elt F)

variable (A : Args F)

/-- The rows of `x` that a partial product is computed from, and all of the device's share of `W1` and `W2`. -/
def xRd (c : Dev nD) (j : Fin 2) (e : Fin 4) : Vec F S128x1024 .f32 := xM.view.readAt (Elt F) (xRect c j e).toLoadRect (A.x c)
def w1Rd (c : Dev nD) : Vec F S1024x2048 .f32 := w1M.view.readAt (Elt F) w1Rect.toLoadRect (A.w1 c)
def w2Rd (c : Dev nD) : Vec F S2048x1024 .f32 := w2M.view.readAt (Elt F) w2Rect.toLoadRect (A.w2 c)

/-! ## The kept partial products -/

/-- Half `j` of the partial product kept in slot `i`. -/
def pcSt (c : Dev nD) (i : Fin 3) (j : Fin 2) : FVec F S1x128x1024 .f32 := k0_pay10 (xRd A c j (keptOf i)) (w1Rd A c) (w2Rd A c)

def halfOf (n : Nat) : Fin 2 := ⟨n / 128 % 2, Nat.mod_lt _ (by decide)⟩
def quarterOf (n : Nat) : Fin 4 := ⟨n / 64 % 4, Nat.mod_lt _ (by decide)⟩
def in128 (n : Nat) : Fin 128 := ⟨n % 128, Nat.mod_lt _ (by decide)⟩
def in64 (n : Nat) : Fin 64 := ⟨n % 64, Nat.mod_lt _ (by decide)⟩
def in512 (n : Nat) : Fin 512 := ⟨n % 512, Nat.mod_lt _ (by decide)⟩

/-- The buffer of kept partial products, filled. -/
def pcC (c : Dev nD) : (cc0_scratch0 : Ref sig .tc).ty.Contents (Elt F) := fun (i : S3x256x1024.Idx) =>
  pcSt A c (i 0) (halfOf (i 1).val) (ix3 (0 : Fin 1) (in128 (i 1).val) (i 2))

/-- The half of its columns that is added in direction `d`. -/
def pcHv (c : Dev nD) (i : Fin 3) (j d : Fin 2) : Vec F S1x128x512 .f32 := pcM.view.readAt (Elt F) (pcH i j d).toLoadRect (pcC A c)

/-! ## The sums that travel in the reduce-scatter -/

/-- What device `c` sends at step `s` of the reduce-scatter. -/
def rsV (d j : Fin 2) : Fin 3 → Dev nD → FVec F S1x1x1x128x512 .bf16
  | 0, c => firstV (partV (xRd A c j 0) (w1Rd A c) (w2Rd A c)) d
  | 1, c => k0_pay11 (pcHv A c (accSlot d 0) j d) (firstV (partV (xRd A (nb (opp d) c) j 0) (w1Rd A (nb (opp d) c)) (w2Rd A (nb (opp d) c))) d)
  | 2, c => k0_pay11 (pcHv A c (accSlot d 1) j d) (k0_pay11 (pcHv A (nb (opp d) c) (accSlot d 0) j d)
      (firstV (partV (xRd A (nb (opp d) (nb (opp d) c)) j 0) (w1Rd A (nb (opp d) (nb (opp d) c))) (w2Rd A (nb (opp d) (nb (opp d) c)))) d))

theorem rsV_succ (d j s : Fin 2) (c : Dev nD) :
    rsV A d j s.succ c = k0_pay11 (pcHv A c (accSlot d s) j d) (rsV A d j s.castSucc (nb (opp d) c)) := by
  match s with
  | 0 => rfl
  | 1 => rfl

/-! ## The own sums -/

/-- Half `j` of the sums device `c` finishes in direction `d`. -/
def ownFin (c : Dev nD) (d j : Fin 2) : FVec F S128x512 .f32 := ownV (pcSt A c (ownSlot d) j) (rsV A d j 2 (nb (opp d) c)) d

/-- The buffer they are sent round from, filled. -/
def ownC (c : Dev nD) : (cc0_scratch3 : Ref sig .tc).ty.Contents (Elt F) := fun (i : S2x256x512.Idx) =>
  ownBf (ownFin A c (i 0) (halfOf (i 1).val)) (ix3 (0 : Fin 1) (in128 (i 1).val) (i 2))

/-- Quarter `q` of them, as sent. -/
def ownQv (c : Dev nD) (d : Fin 2) (q : Fin 4) : Vec F S64x512 .bf16 := (srcV (.inr (d, 0, q))).view.read (Elt F) (ownC A c)

/-- The device `t` places back against direction `d`. -/
def back (d : Fin 2) : Fin 3 → Dev nD → Dev nD
  | 0, c => c
  | 1, c => nb (opp d) c
  | 2, c => nb (opp d) (nb (opp d) c)

theorem back_succ (d t : Fin 2) (c : Dev nD) : back d t.succ c = back d t.castSucc (nb (opp d) c) := by
  match t with
  | 0 => rfl
  | 1 => rfl

/-- The block that transfer `k` carries away from device `c`. -/
def blk : (k : Tr) → Dev nD → Vec F (shp k) .bf16
  | .inl (d, s, j), c => shapeCast S128x512 (rsV A d j s c) squeezes_S1x1x1x128x512_S128x512.numel_eq
  | .inr (d, t, q), c => ownQv A (back d t c) d q

/-! ## The result -/

/-- A gathered block as written into the result: the one that transfer `(d, t, q)` brought. -/
def gatFin (c : Dev nD) (d : Fin 2) (t : Fin 3) (q : Fin 4) : FVec F S64x512 .f32 :=
  extf .f32 (blk A (.inr (d, t, q)) (nb (opp d) c) : FVec F S64x512 .bf16) bitsLt_bf16_f32

/-- How many places round the ring a block of 256 rows has come: none for the device's own. -/
def hops (c : Dev nD) (d : Fin 2) (b : Nat) : Nat := if d = 0 then (c.val + 5 - b) % 4 else (b + 5 - c.val) % 4

/-- The transfer that brought a block `h` places. -/
def stepOf (h : Nat) : Fin 3 := ⟨(h - 1) % 3, Nat.mod_lt _ (by decide)⟩

/-- The half a column lies in, by the direction that carries it. -/
def sideOf (k : Nat) : Fin 2 := if k < 512 then 1 else 0

/-- The result on device `c`, at row `r` and column `k`. -/
def outN (c : Dev nD) (r k : Nat) : F .f32 :=
  if hops c (sideOf k) (r / 256) = 0 then ownFin A c (sideOf k) (halfOf r) (ix2 (in128 r) (in512 k))
  else gatFin A c (sideOf k) (stepOf (hops c (sideOf k) (r / 256))) (quarterOf r) (ix2 (in64 r) (in512 k))

/-- The result on device `c`. -/
def outC (c : Dev nD) : (cc0_stg3_0 : Ref sig .tc).ty.Contents (Elt F) := fun (i : S1024x1024.Idx) => outN A c (i 0).val (i 1).val

/-! ## The buffers' contents read back block by block -/

theorem halfOf_eq (j : Fin 2) (m n : Nat) (hn : n < 128) : halfOf (256 * m + 128 * j.val + n) = j :=
  Fin.ext (by show (256 * m + 128 * j.val + n) / 128 % 2 = j.val; omega)
theorem in128_eq (j : Fin 2) (m n : Nat) (hn : n < 128) : (in128 (256 * m + 128 * j.val + n)).val = n := by
  show (256 * m + 128 * j.val + n) % 128 = n; omega

/-- Reading the filled buffer of partial products at a block gives the block. -/
theorem pcC_read (c : Dev nD) (i : Fin 3) (j : Fin 2) : (pcM.access (pcJ i j)).read (Elt F) (pcC A c) = pcSt A c i j := by
  funext y
  have h0 : (y 0).val < 1 := (y 0).isLt
  have h1 : (y 1).val < 128 := (y 1).isLt
  have e0 : i.val + 1 * (y 0).val = i.val := by omega
  have e1 : halfOf (128 * j.val + 1 * (y 1).val) = j := Fin.ext (by show (128 * j.val + 1 * (y 1).val) / 128 % 2 = _; omega)
  show pcSt A c ⟨i.val + 1 * (y 0).val, _⟩ (halfOf (128 * j.val + 1 * (y 1).val)) (ix3 (0 : Fin 1) (in128 (128 * j.val + 1 * (y 1).val)) ⟨0 + 1 * (y 2).val, _⟩) = pcSt A c i j y
  have ei : (⟨i.val + 1 * (y 0).val, by omega⟩ : Fin 3) = i := Fin.ext e0
  rw [e1, ei]
  refine congrArg _ (funext fun a => ?_)
  match a with
  | ⟨0, _⟩ => exact Fin.ext (by show 0 = (y 0).val; omega)
  | ⟨1, _⟩ => exact Fin.ext (by show (128 * j.val + 1 * (y 1).val) % 128 = (y 1).val; omega)
  | ⟨2, _⟩ => exact Fin.ext (by show 0 + 1 * (y 2).val = (y 2).val; omega)

/-- Likewise the buffer of own sums. -/
theorem ownC_read (c : Dev nD) (d j : Fin 2) : (ownM.access (ownJ d j)).read (Elt F) (ownC A c) = ownBf (ownFin A c d j) := by
  funext y
  have h0 : (y 0).val < 1 := (y 0).isLt
  have h1 : (y 1).val < 128 := (y 1).isLt
  have e1 : halfOf (128 * j.val + 1 * (y 1).val) = j := Fin.ext (by show (128 * j.val + 1 * (y 1).val) / 128 % 2 = _; omega)
  show ownBf (ownFin A c ⟨d.val + 1 * (y 0).val, _⟩ (halfOf (128 * j.val + 1 * (y 1).val))) (ix3 (0 : Fin 1) (in128 (128 * j.val + 1 * (y 1).val)) ⟨0 + 1 * (y 2).val, _⟩) = _
  have ei : (⟨d.val + 1 * (y 0).val, by omega⟩ : Fin 2) = d := Fin.ext (by show d.val + 1 * (y 0).val = d.val; omega)
  rw [e1, ei]
  refine congrArg _ (funext fun a => ?_)
  match a with
  | ⟨0, _⟩ => exact Fin.ext (by show 0 = (y 0).val; omega)
  | ⟨1, _⟩ => exact Fin.ext (by show (128 * j.val + 1 * (y 1).val) % 128 = (y 1).val; omega)
  | ⟨2, _⟩ => exact Fin.ext (by show 0 + 1 * (y 2).val = (y 2).val; omega)

/-- Where a half block of own sums lands, in closed form: rows from the next device's chunk on, or the previous one's. -/
theorem ownOff_eq (c : Dev nD) (j d : Fin 2) : ownOff c j d = ![256 * (nb d c).val + 128 * j.val, 512 * (1 - d.val)] := by
  revert c j d; decide +kernel

/-- Where a gathered block lands, in closed form. -/
theorem gatOff_eq (c : Dev nD) (t : Fin 3) (q : Fin 4) (d : Fin 2) :
    gatOff c t q d = ![256 * (back d t c).val + 64 * q.val, 512 * (1 - d.val)] := by
  revert c t q d; decide +kernel

theorem hops_own (c : Dev nD) (d : Fin 2) : hops c d (nb d c).val = 0 := by revert c d; decide
theorem hops_gat (c : Dev nD) (d : Fin 2) (t : Fin 3) : hops c d (back d t c).val = t.val + 1 := by revert c d t; decide

theorem side_eq (d : Fin 2) (n : Nat) (hn : n < 512) : sideOf (512 * (1 - d.val) + 1 * n) = d := by
  match d with
  | 0 => exact if_neg (by show ¬ 512 * (1 - 0) + 1 * n < 512; omega)
  | 1 => exact if_pos (by show 512 * (1 - 1) + 1 * n < 512; omega)

/-- The result read at a block of own sums. -/
theorem outC_own (c : Dev nD) (d j : Fin 2) : (outM.access (ownRect c d j)).read (Elt F) (outC A c) = ownFin A c d j := by
  funext y
  have h0 : (y 0).val < 128 := (y 0).isLt
  have h1 : (y 1).val < 512 := (y 1).isLt
  show outC A c ((ownRect c d j).emb y) = _
  have e0 : (((ownRect c d j).emb y) 0).val = 256 * (nb d c).val + 128 * j.val + 1 * (y 0).val := by
    show ownOff c j d 0 + 1 * (y 0).val = _; rw [ownOff_eq]; rfl
  have e1 : (((ownRect c d j).emb y) 1).val = 512 * (1 - d.val) + 1 * (y 1).val := by
    show ownOff c j d 1 + 1 * (y 1).val = _; rw [ownOff_eq]; rfl
  show outN A c (((ownRect c d j).emb y) 0).val (((ownRect c d j).emb y) 1).val = _
  rw [e0, e1]
  unfold outN
  rw [side_eq d _ h1]
  have hb : (256 * (nb d c).val + 128 * j.val + 1 * (y 0).val) / 256 = (nb d c).val := by omega
  rw [hb, hops_own, if_pos rfl]
  have hj : halfOf (256 * (nb d c).val + 128 * j.val + 1 * (y 0).val) = j :=
    Fin.ext (by show (256 * (nb d c).val + 128 * j.val + 1 * (y 0).val) / 128 % 2 = j.val; omega)
  rw [hj]
  refine congrArg _ (funext fun a => ?_)
  match a with
  | ⟨0, _⟩ => exact Fin.ext (by show (256 * (nb d c).val + 128 * j.val + 1 * (y 0).val) % 128 = (y 0).val; omega)
  | ⟨1, _⟩ => exact Fin.ext (by show (512 * (1 - d.val) + 1 * (y 1).val) % 512 = (y 1).val; omega)

/-- The result read at a gathered block. -/
theorem outC_gat (c : Dev nD) (d : Fin 2) (t : Fin 3) (q : Fin 4) :
    (outM.access (gatRect c d t q)).read (Elt F) (outC A c) = gatFin A c d t q := by
  funext y
  have h0 : (y 0).val < 64 := (y 0).isLt
  have h1 : (y 1).val < 512 := (y 1).isLt
  show outC A c ((gatRect c d t q).emb y) = _
  have e0 : (((gatRect c d t q).emb y) 0).val = 256 * (back d t c).val + 64 * q.val + 1 * (y 0).val := by
    show gatOff c t q d 0 + 1 * (y 0).val = _; rw [gatOff_eq]; rfl
  have e1 : (((gatRect c d t q).emb y) 1).val = 512 * (1 - d.val) + 1 * (y 1).val := by
    show gatOff c t q d 1 + 1 * (y 1).val = _; rw [gatOff_eq]; rfl
  show outN A c (((gatRect c d t q).emb y) 0).val (((gatRect c d t q).emb y) 1).val = _
  rw [e0, e1]
  unfold outN
  rw [side_eq d _ h1]
  have hb : (256 * (back d t c).val + 64 * q.val + 1 * (y 0).val) / 256 = (back d t c).val := by omega
  rw [hb, hops_gat, if_neg (Nat.succ_ne_zero _)]
  have hq : quarterOf (256 * (back d t c).val + 64 * q.val + 1 * (y 0).val) = q :=
    Fin.ext (by show (256 * (back d t c).val + 64 * q.val + 1 * (y 0).val) / 64 % 4 = q.val; omega)
  have ht : stepOf (t.val + 1) = t := Fin.ext (by show (t.val + 1 - 1) % 3 = t.val; omega)
  rw [hq, ht]
  refine congrArg _ (funext fun a => ?_)
  match a with
  | ⟨0, _⟩ => exact Fin.ext (by show (256 * (back d t c).val + 64 * q.val + 1 * (y 0).val) % 64 = (y 0).val; omega)
  | ⟨1, _⟩ => exact Fin.ext (by show (512 * (1 - d.val) + 1 * (y 1).val) % 512 = (y 1).val; omega)

/-- Every element of the result is in a block of own sums or in a gathered one. -/
theorem out_cover (c : Dev nD) (i : S1024x1024.Idx) :
    (∃ d j, i ∈ (ownRect c d j).set) ∨ ∃ d t q, i ∈ (gatRect c d t q).set := by
  have h0 : (i 0).val < 1024 := (i 0).isLt
  have h1 : (i 1).val < 1024 := (i 1).isLt
  obtain ⟨d, hd, hd'⟩ : ∃ d : Fin 2, 512 * (1 - d.val) ≤ (i 1).val ∧ (i 1).val < 512 * (1 - d.val) + 512 := by
    by_cases h : (i 1).val < 512
    · exact ⟨1, by show 512 * (1 - 1) ≤ _; omega, by show _ < 512 * (1 - 1) + 512; omega⟩
    · exact ⟨0, by show 512 * (1 - 0) ≤ _; omega, by show _ < 512 * (1 - 0) + 512; omega⟩
  have hc : ∀ (c : Dev nD) (d : Fin 2) (b : Fin 4), (nb d c).val = b.val ∨ ∃ t, (back d t c).val = b.val := by decide
  have hb : (i 0).val / 256 < 4 := by omega
  rcases hc c d ⟨(i 0).val / 256, hb⟩ with h | ⟨t, h⟩
  · refine Or.inl ⟨d, halfOf (i 0).val, Rect.mem_set_unit.mpr fun a => ?_⟩
    rw [ownOff_eq]
    match a with
    | ⟨0, _⟩ =>
      show 256 * (nb d c).val + 128 * ((i 0).val / 128 % 2) ≤ (i 0).val ∧ (i 0).val < 256 * (nb d c).val + 128 * ((i 0).val / 128 % 2) + 128
      rw [h]; show 256 * ((i 0).val / 256) + _ ≤ _ ∧ _ < 256 * ((i 0).val / 256) + _ + 128; omega
    | ⟨1, _⟩ => exact ⟨hd, hd'⟩
  · refine Or.inr ⟨d, t, quarterOf (i 0).val, Rect.mem_set_unit.mpr fun a => ?_⟩
    rw [gatOff_eq]
    match a with
    | ⟨0, _⟩ =>
      show 256 * (back d t c).val + 64 * ((i 0).val / 64 % 4) ≤ (i 0).val ∧ (i 0).val < 256 * (back d t c).val + 64 * ((i 0).val / 64 % 4) + 64
      rw [h]; show 256 * ((i 0).val / 256) + _ ≤ _ ∧ _ < 256 * ((i 0).val / 256) + _ + 64; omega
    | ⟨1, _⟩ => exact ⟨hd, hd'⟩

end Cert.RingK
end
-- ==== Proof.Proto.lean ====
/-
The protocol the four devices follow, and what a device holds at each point of it.

Every semaphore is used for one round. A device's barrier semaphore is raised once by each neighbour, and with that
raise the neighbour hands over the landing blocks that this device will write on it. A transfer's departure semaphore
gives the block it was sent from back; its arrival semaphore gives the receiving device the landing block, holding what
`blk` says. Between its handshake and its end a device's position is a table of where each of its transfers stands
(`St`), and `stR` is what it holds at such a position.
-/
module

public import proofs.«01_k».proof.Proof.Values
public import Idealize.ShloMosaic.Lib.Pipeline.Launch

@[expose] public section

noncomputable section

namespace Cert.RingK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the protocol's cells, beside the pipeline's own. -/
abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's cells: the barrier, and per transfer its departure (`false`) and its arrival (`true`). -/
abbrev Cx : Type := Option (Bool × Tr)

instance : DecidableEq Cx := Classical.decEq Cx

def csem : Cx → SemLoc sig
  | none => .reg barS
  | some (false, k) => .dma (sSem k)
  | some (true, k) => .dma (rSem k)

/-- Where a transfer's semaphore sits in its array. -/
def trIx : Tr → ℕ
  | .inl (d, s, j) => 6 * d.val + 2 * s.val + j.val
  | .inr (d, t, q) => 24 + 12 * d.val + 4 * t.val + q.val

theorem trIx_inj : Function.Injective trIx := by
  rintro (⟨d, s, j⟩ | ⟨d, t, q⟩) (⟨d', s', j'⟩ | ⟨d', t', q'⟩) h <;> simp only [trIx] at h
  · rw [show d = d' from Fin.ext (by omega), show s = s' from Fin.ext (by omega), show j = j' from Fin.ext (by omega)]
  · omega
  · omega
  · rw [show d = d' from Fin.ext (by omega), show t = t' from Fin.ext (by omega), show q = q' from Fin.ext (by omega)]

theorem sSem_val (k : Tr) : (sSem k).val = 4 + trIx k := by revert k; decide +kernel
theorem rSem_val (k : Tr) : (rSem k).val = (if trIx k < 24 then 16 else 28) + trIx k := by revert k; decide +kernel
theorem trIx_lt (k : Tr) : trIx k < 12 ∨ 24 ≤ trIx k ∧ trIx k < 48 := by revert k; decide +kernel

theorem sSem_ne_rSem (k k' : Tr) : sSem k ≠ rSem k' := fun h => by
  have h := congrArg Fin.val h
  rw [sSem_val, rSem_val] at h
  have := trIx_lt k; have := trIx_lt k'
  split at h <;> omega

theorem csem_inj : Function.Injective csem := by
  rintro (_ | ⟨_ | _, k⟩) (_ | ⟨_ | _, k'⟩) h
  · rfl
  · cases h
  · cases h
  · cases h
  · have h := congrArg Fin.val (SemLoc.dma.inj h)
    rw [sSem_val, sSem_val] at h
    rw [trIx_inj (Nat.add_left_cancel h)]
  · exact absurd (SemLoc.dma.inj h) (sSem_ne_rSem k k')
  · cases h
  · exact absurd (SemLoc.dma.inj h).symm (sSem_ne_rSem k' k)
  · have h := congrArg Fin.val (SemLoc.dma.inj h)
    rw [rSem_val, rSem_val] at h
    have := trIx_lt k; have := trIx_lt k'
    rw [trIx_inj (show trIx k = trIx k' by split at h <;> split at h <;> omega)]

/-- Which of a device's cells a semaphore is, if any. -/
def cix : SemLoc sig → Option Cx := Function.partialInv csem
theorem cix_csem (x : Cx) : cix (csem x) = some x := Function.partialInv_left csem_inj x
theorem csem_of_cix {sm : SemLoc sig} {x : Cx} (h : cix sm = some x) : csem x = sm :=
  (Function.partialInv_of_injective csem_inj x sm).mp h

abbrev kcell (cx : Dev nD × Cx) : GSem nD τ sig := ((cx.1 : Thread nD τ), csem cx.2)
abbrev bCell (c : Dev nD) : GSem nD τ sig := kcell (c, none)
abbrev sCell (c : Dev nD) (k : Tr) : GSem nD τ sig := kcell (c, some (false, k))
abbrev rCell (c : Dev nD) (k : Tr) : GSem nD τ sig := kcell (c, some (true, k))

theorem kcell_inj : Function.Injective kcell := by
  rintro ⟨c, x⟩ ⟨c', x'⟩ h
  have h1 : c = c' := congrArg (fun g : GSem nD τ sig => g.1.1) h
  exact Prod.ext h1 (csem_inj (congrArg Prod.snd h))

/-- Where transfer `k` of device `c` goes, and whence the one arriving at `c` comes. -/
abbrev dst (k : Tr) (c : Dev nD) : Dev nD := nb (dirOf k) c
abbrev fro (k : Tr) (c : Dev nD) : Dev nD := nb (opp (dirOf k)) c

/-- What transfer `k` adds to its semaphores. -/
abbrev amt (k : Tr) : ℕ := (dstV k).view.dmaCredit
theorem amt_pos (k : Tr) : 0 < amt k := View.dmaCredit_pos _ (by revert k; decide)

/-! ## The blocks a device holds -/

/-- The block a transfer is sent from, and the one it lands in, at contents `f`. -/
def srcPts (c : Dev nD) (k : Tr) (f : Buf (Elt F) ((srcV k).view.loc (c : Thread nD τ))) : sProp 𝕄 :=
  (srcV k).view.loc (c : Thread nD τ) ↦[(srcV k).view.set]{fullShare} f
def dstPts (c : Dev nD) (k : Tr) (f : Buf (Elt F) ((dstV k).view.loc (c : Thread nD τ))) : sProp 𝕄 :=
  (dstV k).view.loc (c : Thread nD τ) ↦[(dstV k).view.set]{fullShare} f

/-- The same, holding the values `v`. -/
def srcHas (c : Dev nD) (k : Tr) (v : Vec F (shp k) .bf16) : sProp 𝕄 :=
  iprop(∃ f, ⌜(srcV k).view.read (Elt F) f = v⌝ ∗ srcPts c k f)
def dstHas (c : Dev nD) (k : Tr) (v : Vec F (shp k) .bf16) : sProp 𝕄 :=
  iprop(∃ f, ⌜(dstV k).view.read (Elt F) f = v⌝ ∗ dstPts c k f)

/-- What a raise of the barrier hands over: the landing blocks of device `c` for the transfers of direction `d`. -/
def slots (c : Dev nD) (d : Fin 2) : sProp 𝕄 :=
  bigSep (Finset.univ.filter fun k : Tr => dirOf k = d) fun k => iprop(∃ f, dstPts c k f)

omit [FloatOps F] in
instance srcPts_storable (c : Dev nD) (k : Tr) (f) : BI.Storable (upEmb : UEmb _ 𝕄) (srcPts (F := F) c k f) := by unfold srcPts; infer_instance
omit [FloatOps F] in
instance dstPts_storable (c : Dev nD) (k : Tr) (f) : BI.Storable (upEmb : UEmb _ 𝕄) (dstPts (F := F) c k f) := by unfold dstPts; infer_instance
omit [FloatOps F] in
instance srcHas_storable (c : Dev nD) (k : Tr) (v) : BI.Storable (upEmb : UEmb _ 𝕄) (srcHas (F := F) c k v) := by unfold srcHas; infer_instance
omit [FloatOps F] in
instance dstHas_storable (c : Dev nD) (k : Tr) (v) : BI.Storable (upEmb : UEmb _ 𝕄) (dstHas (F := F) c k v) := by unfold dstHas; infer_instance
omit [FloatOps F] in
instance slots_storable (c : Dev nD) (d : Fin 2) : BI.Storable (upEmb : UEmb _ 𝕄) (slots (F := F) c d) := by unfold slots; infer_instance

/-! ## The schedule -/

variable (A : Args F)

/-- What a cell of device `c` hands its owner. Duty `d` of the barrier is the raise by the neighbour in direction `d`. -/
def pay (c : Dev nD) (d : Fin 2) : Option Cx → sProp 𝕄
  | some none => slots (nb d c) d
  | some (some (false, k)) => srcHas c k (blk A k c)
  | some (some (true, k)) => dstHas c k (blk A k (fro k c))
  | none => iprop(emp)

def dutiesOf : Option Cx → Finset (Fin 2)
  | some none => Finset.univ
  | some (some _) => {0}
  | none => ∅

def amountOf : Option Cx → ℕ
  | some (some (_, k)) => amt k
  | _ => 1

def Rd : Rounds.Schedule (GSem nD τ sig) (Fin 2) 𝕄 where
  duties g r := if r = 0 ∧ g.1.2 = .tc then dutiesOf (cix g.2) else ∅
  unitless _ := False
  amount g _ _ := amountOf (cix g.2)
  payload g _ d := pay A g.1.1 d (cix g.2)
  amount_pos g _ _ _ := by
    rcases cix g.2 with _ | _ | ⟨_, k⟩
    · exact Nat.one_pos
    · exact Nat.one_pos
    · exact amt_pos k

instance Rd_payload_storable (g : GSem nD τ sig) (r : ℕ) (d : Fin 2) : BI.Storable (upEmb : UEmb _ 𝕄) ((Rd A).payload g r d) := by
  show BI.Storable upEmb (pay A g.1.1 d (cix g.2))
  rcases cix g.2 with _ | _ | ⟨_ | _, k⟩ <;> unfold pay <;> infer_instance

theorem Rd_duties (c : Dev nD) (x : Cx) : (Rd A).duties (kcell (c, x)) 0 = dutiesOf (some x) := by
  dsimp only [Rd]; rw [if_pos ⟨rfl, rfl⟩, cix_csem]
theorem Rd_later (g : GSem nD τ sig) : ∀ r, 1 ≤ r → (Rd A).duties g r = ∅ := fun r hr => by
  dsimp only [Rd]; exact if_neg fun h => by omega
theorem Rd_amount (c : Dev nD) (x : Cx) (r : ℕ) (d : Fin 2) : (Rd A).amount (kcell (c, x)) r d = amountOf (some x) := by
  dsimp only [Rd]; rw [cix_csem]
theorem Rd_payload (c : Dev nD) (x : Cx) (r : ℕ) (d : Fin 2) : (Rd A).payload (kcell (c, x)) r d = pay A c d (some x) := by
  dsimp only [Rd]; rw [cix_csem]

theorem expect_bar (c : Dev nD) : (Rd A).expect (bCell c) 0 = 2 := by
  unfold Schedule.expect Schedule.amountOf
  rw [Rd_duties, Finset.sum_congr rfl fun d _ => Rd_amount A c none 0 d]; rfl
theorem expect_tr (c : Dev nD) (b : Bool) (k : Tr) : (Rd A).expect (kcell (c, some (b, k))) 0 = amt k := by
  unfold Schedule.expect Schedule.amountOf
  rw [Rd_duties, Finset.sum_congr rfl fun d _ => Rd_amount A c (some (b, k)) 0 d]; exact Finset.sum_singleton _ _

theorem rest_tr (c : Dev nD) (b : Bool) (k : Tr) :
    bigSep ((Rd A).duties (kcell (c, some (b, k))) 0 \ ∅) (fun d => (Rd A).payload (kcell (c, some (b, k))) 0 d) = pay A c 0 (some (some (b, k))) := by
  rw [Finset.sdiff_empty, Rd_duties]
  show bigSep {0} _ = _
  rw [bigSep_singleton, Rd_payload]
theorem rest_bar (c : Dev nD) :
    bigSep ((Rd A).duties (bCell c) 0 \ ∅) (fun d => (Rd A).payload (bCell c) 0 d) = iprop(slots (F := F) (nb 0 c) 0 ∗ slots (F := F) (nb 1 c) 1) := by
  rw [Finset.sdiff_empty, Rd_duties]
  show bigSep Finset.univ _ = _
  rw [bigSep_univ_eq_bigSepL [0, 1] (by decide) (by decide), bigSepL_cons_cons, bigSepL_singleton, Rd_payload, Rd_payload]
  rfl

/-! ## What a device owes, and the order of the waits -/

/-- The arrivals a device still owes: of the transfers it has not sent. -/
def owed (o : Tr → Fin 3) (c : Dev nD) : CellTallies nD τ sig Unit :=
  ∑ k : Tr, if o k = 0 then tallyAt (rCell (dst k c) k) () (amt k) else 0

/-- At launch it also owes both neighbours a raise of their barriers. -/
def O₀ (c : Dev nD) : CellTallies nD τ sig Unit :=
  owed (fun _ => 0) c + tallyAt (bCell (nb 0 c)) () 1 + tallyAt (bCell (nb 1 c)) () 1

def L (g : GSem nD τ sig) : Finset Unit := if g.1.2 = .tc then {()} else ∅

/-- The steps of the reduce-scatter come in order, then those of the all-gather. -/
def rank : Tr → ℕ
  | .inl (_, s, _) => 2 + s.val
  | .inr (_, t, _) => 5 + t.val

def lvOf : Option Cx → ℕ
  | some none => 1
  | some (some (true, k)) => rank k
  | _ => 0

def lv (g : GSem nD τ sig) (_ : Unit) : ℕ := lvOf (cix g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cx) (u : Unit) : lv (kcell (c, x)) u = lvOf (some x) := by unfold lv; rw [cix_csem]

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem owed_apply (o : Tr → Fin 3) (c : Dev nD) (g : GSem nD τ sig) (u : Unit) :
    owed o c g u = ∑ k : Tr, if o k = 0 then (tallyAt (rCell (dst k c) k) () (amt k) : CellTallies nD τ sig Unit) g u else 0 := by
  unfold owed
  rw [Finset.sum_apply, Finsupp.finset_sum_apply]
  refine Finset.sum_congr rfl fun k _ => ?_
  split <;> rfl

theorem owed_pos {o : Tr → Fin 3} {c : Dev nD} {g : GSem nD τ sig} {u : Unit} (h : 0 < owed o c g u) :
    ∃ k, o k = 0 ∧ g = rCell (dst k c) k := by
  rw [owed_apply] at h
  obtain ⟨k, -, hk⟩ := Finset.exists_ne_zero_of_sum_ne_zero (Nat.pos_iff_ne_zero.mp h)
  by_cases h0 : o k = 0
  · rw [if_pos h0] at hk; exact ⟨k, h0, tally_pos (Nat.pos_of_ne_zero hk)⟩
  · rw [if_neg h0] at hk; exact absurd rfl hk

/-- Sending `k` pays what is owed for it. -/
theorem owed_send {o : Tr → Fin 3} {c : Dev nD} {k : Tr} (h : o k = 0) {v : Fin 3} (hv : v ≠ 0) :
    owed o c = owed (Function.update o k v) c + tallyAt (rCell (dst k c) k) () (amt k) := by
  unfold owed
  rw [← Finset.add_sum_erase _ _ (Finset.mem_univ k),
    ← Finset.add_sum_erase _ (fun k' => if Function.update o k v k' = 0 then tallyAt (rCell (dst k' c) k') () (amt k') else 0) (Finset.mem_univ k),
    if_pos h, Function.update_self, if_neg hv, zero_add, add_comm]
  refine congrArg (· + _) (Finset.sum_congr rfl fun k' hk' => ?_)
  rw [Function.update_of_ne (Finset.ne_of_mem_erase hk')]

theorem owed_gone {o : Tr → Fin 3} {c : Dev nD} {k : Tr} (h : o k ≠ 0) {v : Fin 3} (hv : v ≠ 0) :
    owed (Function.update o k v) c = owed o c := by
  unfold owed
  refine Finset.sum_congr rfl fun k' _ => ?_
  by_cases e : k' = k
  · subst e; rw [Function.update_self, if_neg hv, if_neg h]
  · rw [Function.update_of_ne e]

theorem owed_none {o : Tr → Fin 3} (c : Dev nD) (h : ∀ k, o k ≠ 0) : owed o c = 0 := by
  unfold owed
  exact Finset.sum_eq_zero fun k _ => if_neg (h k)

omit [FloatOps F] in
/-- A wait on a semaphore below everything owed. -/
theorem mayWait_of (c : Dev nD) (sm : SemLoc sig) (O : CellTallies nD τ sig Unit) (n : ℕ) (hn : lvOf (cix sm) ≤ n)
    (hO : ∀ g u, 0 < O g u → ∃ c' x, g = kcell (c', x) ∧ n < lvOf (some x)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', x, rfl, -⟩ := hO g u hg; rw [L_tc]; exact Finset.mem_singleton_self _)
    (fun p hp => by rw [Finset.mem_singleton.mp hp]; exact hn)
    (fun g u hg => by obtain ⟨c', x, rfl, hx⟩ := hO g u hg; rw [lv_cell]; exact hx)

omit [FloatOps F] in
theorem mayWait_owed (c : Dev nD) (x : Cx) (o : Tr → Fin 3) (h : ∀ k, o k = 0 → lvOf (some x) < rank k) :
    (levAts L lv : sProp 𝕄) ⊢ MayWait (c : Thread nD τ) (csem x) () (owed o c) := by
  refine mayWait_of c _ _ (lvOf (some x)) (by rw [cix_csem]) fun g u hg => ?_
  obtain ⟨k, hk, rfl⟩ := owed_pos hg
  exact ⟨_, _, rfl, h k hk⟩

theorem rank_pos (k : Tr) : 1 < rank k := by rcases k with ⟨d, s, j⟩ | ⟨d, t, q⟩ <;> simp only [rank] <;> omega

theorem O₀_pos {c : Dev nD} {g : GSem nD τ sig} {u : Unit} (h : 0 < O₀ c g u) : ∃ c' x, g = kcell (c', x) ∧ 0 < lvOf (some x) := by
  unfold O₀ at h
  rw [Pi.add_apply, Finsupp.add_apply, Pi.add_apply, Finsupp.add_apply] at h
  rcases Nat.eq_zero_or_pos (owed (fun _ => 0) c g u) with h1 | h1
  · rcases Nat.eq_zero_or_pos ((tallyAt (bCell (nb 0 c)) () 1 : CellTallies nD τ sig Unit) g u) with h2 | h2
    · exact ⟨_, none, tally_pos (g := bCell (nb 1 c)) (n := 1) (u := u) (by omega), Nat.one_pos⟩
    · exact ⟨_, none, tally_pos h2, Nat.one_pos⟩
  · obtain ⟨k, -, e⟩ := owed_pos h1
    exact ⟨_, some (true, k), e, Nat.lt_trans Nat.one_pos (rank_pos k)⟩

/-! ## What a device holds -/

/-- A transfer this device sends. `0`: not yet; `1`: in flight; `2`: its block is back. -/
def outR (c : Dev nD) (k : Tr) (n : Fin 3) : sProp 𝕄 := match n with
  | 0 => iprop(dutyTok ER (sCell c k) 0 0 ∗ dutyTok ER (rCell (dst k c) k) 0 0 ∗ (∃ f, dstPts (dst k c) k f) ∗ atPos ER (sCell c k) 0 ∅ 0)
  | 1 => iprop(cred (tallyAt (sCell c k) () (amt k)) ∗ atPos ER (sCell c k) 0 ∅ 0)
  | 2 => iprop(semVal (sCell c k) 0 ∗ srcHas c k (blk A k c))

/-- A transfer this device receives. `0`: not yet; `1`: its block is here; `2`: its block is here and passed on. -/
def inR (c : Dev nD) (k : Tr) (n : Fin 3) : sProp 𝕄 := match n with
  | 0 => iprop(cred (tallyAt (rCell c k) () (amt k)) ∗ atPos ER (rCell c k) 0 ∅ 0)
  | 1 => iprop(semVal (rCell c k) 0 ∗ dstHas c k (blk A k (fro k c)))
  | 2 => semVal (rCell c k) 0

/-- A block to be sent. `0`: anything is in it; `1`: what is to be sent is in it; `2`: it is not with the device. -/
def srcR (c : Dev nD) (k : Tr) (n : Fin 3) : sProp 𝕄 := match n with
  | 0 => iprop(∃ f, srcPts c k f)
  | 1 => srcHas c k (blk A k c)
  | 2 => iprop(emp)

/-- A device's position: where its transfers stand, and which blocks of the kept partial products and of the result
    are written. -/
structure St where
  o : Tr → Fin 3
  i : Tr → Fin 3
  s : Tr → Fin 3
  pc : Fin 3 × Fin 2 → Bool
  own : Fin 2 × Fin 2 → Bool
  gat : Fin 2 × Fin 3 × Fin 4 → Bool

/-- The kept partial products that the position says are written. -/
def PcOk (c : Dev nD) (S : Fin 3 × Fin 2 → Bool) (f : (cc0_scratch0 : Ref sig .tc).ty.Contents (Elt F)) : Prop :=
  ∀ i j, S (i, j) = true → ∀ x ∈ (pcM.access (pcJ i j)).set, f x = pcC A c x

/-- The blocks of the result that the position says are written. -/
def OutOk (c : Dev nD) (S : Fin 2 × Fin 2 → Bool) (T : Fin 2 × Fin 3 × Fin 4 → Bool) (f : (cc0_stg3_0 : Ref sig .tc).ty.Contents (Elt F)) : Prop :=
  (∀ d j, S (d, j) = true → ∀ x ∈ (outM.access (ownRect c d j)).set, f x = outC A c x)
  ∧ ∀ d t q, T (d, t, q) = true → ∀ x ∈ (outM.access (gatRect c d t q)).set, f x = outC A c x

abbrev pts (c : Dev nD) (b : Ref sig .tc) (f : b.ty.Contents (Elt F)) : sProp 𝕄 := ((c : Thread nD τ).loc b) ↦{fullShare} f

/-- The arguments' blocks, which do not change. -/
def argR (c : Dev nD) : sProp 𝕄 := iprop(pts c cc0_stg0_0 (A.x c) ∗ pts c cc0_stg1_0 (A.w1 c) ∗ pts c cc0_stg2_0 (A.w2 c))

/-- What is owed, whatever has been waited on. -/
def owesR (c : Dev nD) (O : CellTallies nD τ sig Unit) : sProp 𝕄 := iprop(∃ W, owes (c : Thread nD τ) O W)

def pcR (c : Dev nD) (S : Fin 3 × Fin 2 → Bool) : sProp 𝕄 := iprop(∃ f, ⌜PcOk A c S f⌝ ∗ pts c cc0_scratch0 f)
def resR (c : Dev nD) (S : Fin 2 × Fin 2 → Bool) (T : Fin 2 × Fin 3 × Fin 4 → Bool) : sProp 𝕄 :=
  iprop(∃ f, ⌜OutOk A c S T f⌝ ∗ pts c cc0_stg3_0 f)

/-- One resource per transfer, each in its own state. -/
abbrev fam (R : Tr → Fin 3 → sProp 𝕄) (σ : Tr → Fin 3) : sProp 𝕄 := bigSep Finset.univ fun k => R k (σ k)
def famBut (R : Tr → Fin 3 → sProp 𝕄) (σ : Tr → Fin 3) (k : Tr) : sProp 𝕄 := bigSep (Finset.univ.erase k) fun k => R k (σ k)

omit [FloatOps F] in
theorem fam_take (R : Tr → Fin 3 → sProp 𝕄) (σ : Tr → Fin 3) (k : Tr) {n : Fin 3} (h : σ k = n) : fam R σ ⊢ iprop(R k n ∗ famBut R σ k) :=
  h ▸ Entails.of_eq (BI.bigSep_erase (Φ := fun k => R k (σ k)) (Finset.mem_univ k))
omit [FloatOps F] in
theorem fam_put (R : Tr → Fin 3 → sProp 𝕄) (σ : Tr → Fin 3) (k : Tr) (n : Fin 3) :
    iprop(R k n ∗ famBut R σ k) ⊢ fam R (Function.update σ k n) := by
  unfold fam famBut
  rw [BI.bigSep_erase (Φ := fun k' => R k' (Function.update σ k n k')) (Finset.mem_univ k), Function.update_self,
    BI.bigSep_congr (s := Finset.univ.erase k) (Φ := fun k' => R k' (Function.update σ k n k')) (Ψ := fun k' => R k' (σ k')) fun k' hk' => by
      rw [Function.update_of_ne (Finset.ne_of_mem_erase hk')]]
  exact Entails.refl _

def stR (c : Dev nD) (S : St) : sProp 𝕄 :=
  iprop(fam (outR A c) S.o ∗ fam (inR A c) S.i ∗ fam (srcR A c) S.s ∗ pcR A c S.pc ∗ resR A c S.own S.gat ∗ owesR c (owed S.o c))

/-- The cells' invariants, under the names they were allocated at, and that every cell's one round is open. -/
def records (K : Dev nD × Cx → ℕ) : sProp 𝕄 :=
  iprop((bigSep Finset.univ fun cx : Dev nD × Cx => cellInv ER (Rd A) (K cx) (kcell cx))
    ∗ bigSep Finset.univ fun cx : Dev nD × Cx => reached ER (kcell cx) 0)

instance records_persistent (K : Dev nD × Cx → ℕ) : BI.Persistent (records A K) := by unfold records; infer_instance

/-- With the order of the waits: what all devices know throughout. -/
def knows (K : Dev nD × Cx → ℕ) : sProp 𝕄 := iprop(records A K ∗ levAts L lv)

instance knows_persistent (K : Dev nD × Cx → ℕ) : BI.Persistent (knows A K) := by unfold knows; infer_instance

theorem knows_inv (K : Dev nD × Cx → ℕ) (cx : Dev nD × Cx) : knows A K ⊢ cellInv ER (Rd A) (K cx) (kcell cx) := by
  unfold knows records
  iintro ⟨⟨HI, -⟩, -⟩
  iapply (show bigSep Finset.univ (fun cx : Dev nD × Cx => cellInv ER (Rd A) (K cx) (kcell cx)) ⊢ cellInv ER (Rd A) (K cx) (kcell cx) from BI.bigSep_elim (Finset.mem_univ cx)); iexact HI
theorem knows_reached (K : Dev nD × Cx → ℕ) (cx : Dev nD × Cx) : knows A K ⊢ (reached ER (kcell cx) 0 : sProp 𝕄) := by
  unfold knows records
  iintro ⟨⟨-, HR⟩, -⟩
  iapply (show bigSep Finset.univ (fun cx : Dev nD × Cx => (reached ER (kcell cx) 0 : sProp 𝕄)) ⊢ reached ER (kcell cx) 0 from BI.bigSep_elim (Finset.mem_univ cx)); iexact HR
theorem knows_lev (K : Dev nD × Cx → ℕ) : knows A K ⊢ (levAts L lv : sProp 𝕄) := by
  unfold knows
  iintro ⟨-, H⟩; iexact H

end Cert.RingK
end
-- ==== Proof.Steps.lean ====
/-
One lemma per event of the kernel: run at a position where the event may run, it moves the device to the next position.

`step` is the table of positions: which event may run where, and where it leads. `step_sound` says that the kernel's
effects do what the table says, at every device and every index.
-/
module

public import proofs.«01_k».proof.Proof.Proto

@[expose] public section

noncomputable section

namespace Cert.RingK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table of positions -/

/-- A block to be sent is filled. -/
def doPut (k : Tr) (S : St) : Option St := if S.s k = 0 then some { S with s := Function.update S.s k 1 } else none

/-- A filled block is sent. -/
def doSend (k : Tr) (S : St) : Option St :=
  if S.o k = 0 ∧ S.s k = 1 then some { S with o := Function.update S.o k 1, s := Function.update S.s k 2 } else none

/-- A block is waited for. Everything still to be sent must come later in the order. -/
def doRecv (k : Tr) (S : St) : Option St :=
  if S.i k = 0 ∧ ∀ k', S.o k' = 0 → rank k < rank k' then some { S with i := Function.update S.i k 1 } else none

/-- The two quarters that a half of the own sums is sent in. -/
def loQ (j : Fin 2) : Fin 4 := ⟨2 * j.val, by omega⟩
def hiQ (j : Fin 2) : Fin 4 := ⟨2 * j.val + 1, by omega⟩

/-- A landed block that is passed on becomes the block the next step sends. -/
def doPass (d : Fin 2) (q : Fin 4) : Fin 3 → St → Option St
  | 0, S => if S.s (.inr (d, 1, q)) = 2 then
      some { S with i := Function.update S.i (.inr (d, 0, q)) 2, s := Function.update S.s (.inr (d, 1, q)) 1 } else none
  | 1, S => if S.s (.inr (d, 2, q)) = 2 then
      some { S with i := Function.update S.i (.inr (d, 1, q)) 2, s := Function.update S.s (.inr (d, 2, q)) 1 } else none
  | 2, S => some S

def step : Ev → St → Option St
  | .first j, S => (doPut (.inl (0, 0, j)) S).bind fun S => (doSend (.inl (0, 0, j)) S).bind fun S =>
      (doPut (.inl (1, 0, j)) S).bind fun S => doSend (.inl (1, 0, j)) S
  | .part i j, S => some { S with pc := Function.update S.pc (i, j) true }
  | .acc d s j, S => if S.pc (accSlot d s, j) = true ∧ S.i (.inl (d, s.castSucc, j)) = 1 then doPut (.inl (d, s.succ, j)) S else none
  | .own d j, S =>
      if S.pc (ownSlot d, j) = true ∧ S.i (.inl (d, 2, j)) = 1 ∧ S.s (.inr (d, 0, loQ j)) = 0 ∧ S.s (.inr (d, 0, hiQ j)) = 0 then
        some { S with own := Function.update S.own (d, j) true,
                      s := Function.update (Function.update S.s (.inr (d, 0, loQ j)) 1) (.inr (d, 0, hiQ j)) 1 }
      else none
  | .gat d t q, S => if S.i (.inr (d, t, q)) = 1 then doPass d q t { S with gat := Function.update S.gat (d, t, q) true } else none
  | .send k, S => doSend k S
  | .recv k, S => doRecv k S
  | .gone k, S => if S.o k = 1 then some { S with o := Function.update S.o k 2 } else none

/-! ## What a step does -/

abbrev 𝒱₀ : Variants := Variants.none

/-- The rest of the program, run on device `c`. -/
abbrev WP (c : Dev nD) (p : P F) (Q : PUnit → sProp 𝕄) : sProp 𝕄 :=
  wp frame (wpE (defs₀ (F := F)) 𝒱₀ (c : Thread nD τ) none) Set.univ p Q

variable (A : Args F) (K : Dev nD × Cx → ℕ)

/-- Run before `p` at position `S`, `f` leads to position `S'`. -/
def Leads (c : Dev nD) (f : P F → P F) (S S' : St) : Prop := ∀ (p : P F) (Q : PUnit → sProp 𝕄),
  iprop(knows A K ∗ argR A c ∗ stR A c S) ⊢ iprop(((argR A c ∗ stR A c S') -∗ WP c p Q) -∗ WP c (f p) Q)

theorem Leads.comp {c : Dev nD} {f g : P F → P F} {S S' S'' : St} (hf : Leads A K c f S S') (hg : Leads A K c g S' S'') :
    Leads A K c (fun p => f (g p)) S S'' := fun p Q => by
  iintro ⟨#HK, Ha, HS⟩ Hk
  iapply (hf (g p) Q) $$ [Ha HS]
  · isplitr; · iexact HK
    isplitl [Ha] <;> iassumption
  iintro ⟨Ha, HS⟩
  iapply (hg p Q) $$ [Ha HS]
  · isplitr; · iexact HK
    isplitl [Ha] <;> iassumption
  iexact Hk

omit [FloatOps F] in
theorem fam_take_eq {R : Tr → Fin 3 → sProp 𝕄} (σ : Tr → Fin 3) (k : Tr) {n : Fin 3} (h : σ k = n) {X : sProp 𝕄} (hX : R k n = X) :
    fam R σ ⊢ iprop(X ∗ famBut R σ k) := hX ▸ fam_take R σ k h

omit [FloatOps F] in
theorem fam_back_eq {R : Tr → Fin 3 → sProp 𝕄} (σ : Tr → Fin 3) (k : Tr) {n : Fin 3} (h : σ k = n) {X : sProp 𝕄} (hX : R k n = X) :
    iprop(X ∗ famBut R σ k) ⊢ fam R σ := by
  have hp := fam_put R σ k n
  rw [← h, Function.update_eq_self] at hp
  rw [← hX, ← h]; exact hp

omit [FloatOps F] in
theorem fam_put_eq {R : Tr → Fin 3 → sProp 𝕄} (σ : Tr → Fin 3) (k : Tr) (n : Fin 3) {X : sProp 𝕄} (hX : R k n = X) :
    iprop(X ∗ famBut R σ k) ⊢ fam R (Function.update σ k n) := hX ▸ fam_put R σ k n

theorem outR_0 (c : Dev nD) (k : Tr) : outR A c k 0 =
    iprop(dutyTok ER (sCell c k) 0 0 ∗ dutyTok ER (rCell (dst k c) k) 0 0 ∗ (∃ f, dstPts (dst k c) k f) ∗ atPos ER (sCell c k) 0 ∅ 0) := rfl
theorem outR_1 (c : Dev nD) (k : Tr) : outR A c k 1 = iprop(cred (tallyAt (sCell c k) () (amt k)) ∗ atPos ER (sCell c k) 0 ∅ 0) := rfl
theorem inR_0 (c : Dev nD) (k : Tr) : inR A c k 0 = iprop(cred (tallyAt (rCell c k) () (amt k)) ∗ atPos ER (rCell c k) 0 ∅ 0) := rfl
theorem inR_1 (c : Dev nD) (k : Tr) : inR A c k 1 = iprop(semVal (rCell c k) 0 ∗ dstHas c k (blk A k (fro k c))) := rfl
theorem srcR_0 (c : Dev nD) (k : Tr) : srcR A c k 0 = iprop(∃ f, srcPts c k f) := rfl

theorem outR_2 (c : Dev nD) (k : Tr) : outR A c k 2 = iprop(semVal (sCell c k) 0 ∗ srcHas c k (blk A k c)) := rfl
theorem inR_2 (c : Dev nD) (k : Tr) : inR A c k 2 = semVal (rCell c k) 0 := rfl
theorem srcR_1 (c : Dev nD) (k : Tr) : srcR A c k 1 = srcHas c k (blk A k c) := rfl
theorem srcR_2 (c : Dev nD) (k : Tr) : srcR A c k 2 = iprop(emp) := rfl

/-! ## Blocks of a buffer -/

omit [FloatOps F] in
/-- A block written with what `C` holds there: the contents agree with `C` on it, and are as before elsewhere. -/
theorem write_agrees {sp : Space} {s : Shape} {e : EltTy} (v : View sig .tc sp s e) (C f : v.ty.Contents (Elt F)) (w : s.Idx → Elt F e)
    (h : v.read (Elt F) C = w) (i : v.ty.Idx) :
    (i ∈ v.set → v.write (Elt F) f w Finset.univ i = C i) ∧ (f i = C i → v.write (Elt F) f w Finset.univ i = C i) := by
  subst h
  rw [View.write_read_eq_piecewise, View.setOn_univ]
  refine ⟨fun hi => Finset.piecewise_eq_of_mem _ _ _ hi, fun hf => ?_⟩
  by_cases hi : i ∈ v.set
  · exact Finset.piecewise_eq_of_mem _ _ _ hi
  · rw [Finset.piecewise_eq_of_notMem _ _ _ hi, hf]

theorem shapeCast_inj {s t : Shape} {α : Type} {u v : s.Idx → α} {h : s.ShapeCasts t} (h' : t.ShapeCasts s)
    (e : shapeCast t u h = shapeCast t v h) : u = v := by
  rw [← shapeCast_shapeCast u h h', e, shapeCast_shapeCast]

/-! ## Sending and receiving -/

theorem mem_duties (c : Dev nD) (b : Bool) (k : Tr) : 0 ∈ (Rd A).duties (kcell (c, some (b, k))) 0 := by
  rw [Rd_duties]; exact Finset.mem_singleton_self _

/-- The library's rule of a transfer, at the cells of transfer `k`: its block goes, its landing block on the neighbour
    is given up, and the credit to wait for its departure comes. -/
theorem wp_send_tr (c n : Dev nD) (k : Tr) (hn : n = dst k c) {hsc : (dstV k).view.ref.isScScratch = false}
    {hsrc : (srcV k).view.WordExact} {hdst : (dstV k).view.WordExact}
    {hsem : DmaTarget.Typed .vmem (.dma (rSem k)) (.remote (Dev.tc n : Thread nD τ) (dstV k) (.dma (sSem k)) hsc)}
    (o : Tr → Fin 3) (ho : o k = 0) (W : Waits sig Unit) (p : P F) (Q : PUnit → sProp 𝕄) :
    iprop(knows A K ∗ srcHas c k (blk A k c) ∗ (∃ f, dstPts (dst k c) k f) ∗ owes (c : Thread nD τ) (owed o c) W
        ∗ dutyTok ER (sCell c k) 0 0 ∗ dutyTok ER (rCell (dst k c) k) 0 0)
      ⊢ iprop(((cred (tallyAt (sCell c k) () (amt k)) ∗ owes (c : Thread nD τ) (owed (Function.update o k 1) c) W) -∗ WP c p Q)
          -∗ WP c (.op (.enqueueDma (srcV k) (.remote (Dev.tc n : Thread nD τ) (dstV k) (.dma (sSem k)) hsc) (.dma (rSem k)) hsrc hdst hsem) fun _ => p) Q) := by
  subst hn
  unfold srcHas
  iintro ⟨#HK, ⟨%fs, %hfs, Hs⟩, ⟨%fd, Hd⟩, HO, Ht1, Ht2⟩ Hk
  have hpay₁ : ((srcV k).view.loc (c : Thread nD τ) ↦[(srcV k).view.set]{fullShare} fs) ⊢ (Rd A).payload (sCell c k) 0 0 := by
    rw [Rd_payload]; unfold pay srcHas srcPts
    iintro H; iexists fs; isplitr; · ipureintro; exact hfs
    iexact H
  have hpay₂ : ((dstV k).view.loc (dst k c : Thread nD τ) ↦[(dstV k).view.set]{fullShare}
      ((dstV k).view.write (Elt F) fd ((srcV k).view.read (Elt F) fs) Finset.univ)) ⊢ (Rd A).payload (rCell (dst k c) k) 0 0 := by
    rw [Rd_payload]; unfold pay dstHas dstPts
    iintro H; iexists _; isplitr
    rotate_left
    · iexact H
    ipureintro; rw [View.read_write_univ, hfs, fro, dst, nb_opp]
  unfold srcPts dstPts
  iapply (Rounds.wp_send_pointsTo 𝒱₀ ER (Rd A) (c : Thread nD τ) none (c' := (dst k c : Thread nD τ)) (src := srcV k) (dst := dstV k) (sS := .dma (sSem k)) (sem := .dma (rSem k))
    (κ₁ := K (c, some (false, k))) (κ₂ := K (dst k c, some (true, k))) (r₁ := 0) (r₂ := 0) (d₁ := 0) (d₂ := 0) (fs := fs) (fd := fd)
    (mem_duties A c false k) (mem_duties A (dst k c) true k) () () (amt k) rfl
    (Rd_amount A c (some (false, k)) 0 0) (Rd_amount A (dst k c) (some (true, k)) 0 0) _ (owed_send ho (v := 1) (by decide)) (W := W) hpay₁ hpay₂) $$ [Hs Hd HO Ht1 Ht2]
  · isplitr; · iapply (knows_inv A K (c, some (false, k))); iexact HK
    isplitr; · iapply (knows_inv A K (dst k c, some (true, k))); iexact HK
    isplitl [Hs]; · iexact Hs
    isplitl [Hd]; · iexact Hd
    isplitl [HO]; · iexact HO
    isplitl [Ht1]; · iexact Ht1
    isplitr; · iapply (knows_reached A K (c, some (false, k))); iexact HK
    isplitl [Ht2]; · iexact Ht2
    iapply (knows_reached A K (dst k c, some (true, k))); iexact HK
  iexact Hk

theorem doSend_sound (c : Dev nD) (k : Tr) {S S' : St} (h : doSend k S = some S') : Leads A K c (pSend c k) S S' := fun p Q => by
  unfold doSend at h
  split at h
  case isFalse => cases h
  case isTrue hc =>
  cases h
  obtain ⟨ho, hs⟩ := hc
  unfold pSend stR owesR
  iintro ⟨#HK, Ha, ⟨Ho, Hi, Hs, Hpc, Hres, ⟨%W, HO⟩⟩⟩ Hk
  ihave Ho' := (fam_take_eq S.o k ho (outR_0 A c k)) $$ Ho
  icases Ho' with ⟨⟨Ht1, Ht2, Hd, Hat⟩, Ho⟩
  ihave Hs' := (fam_take_eq S.s k hs (srcR_1 A c k)) $$ Hs
  icases Hs' with ⟨Hs1, Hs⟩
  iapply (wp_send_tr A K c _ k (tgt_eq c k) S.o ho W) $$ [Hs1 Hd HO Ht1 Ht2]
  · isplitr; · iexact HK
    isplitl [Hs1]; · iexact Hs1
    isplitl [Hd]; · iexact Hd
    isplitl [HO]; · iexact HO
    isplitl [Ht1] <;> iassumption
  iintro ⟨Hc, HO⟩
  iapply Hk
  isplitl [Ha]; · iexact Ha
  isplitl [Ho Hc Hat]
  · iapply (fam_put_eq S.o k 1 (outR_1 A c k))
    isplitr [Ho]; · isplitl [Hc] <;> iassumption
    iexact Ho
  isplitl [Hi]; · iexact Hi
  isplitl [Hs]
  · iapply (fam_put_eq S.s k 2 (srcR_2 A c k))
    isplitr; · iempintro
    iexact Hs
  isplitl [Hpc]; · iexact Hpc
  isplitl [Hres]; · iexact Hres
  iexists W; iexact HO

/-- A wait on one of a transfer's two semaphores, everything owed later in the order. -/
theorem wp_wait_tr (c : Dev nD) (b : Bool) (k : Tr) {sp sp' : Space} {s s' : Shape} {e e' : EltTy} (sem : DmaSem sig) (hsem : .dma sem = csem (some (b, k)))
    {src : Memref sig .tc sp' s' e'} {dst : Memref sig .tc sp s e} {hsrc : src.view.WordExact} {hdst : dst.view.WordExact}
    (hamt : dst.view.dmaCredit = amt k) (o : Tr → Fin 3) (ho : ∀ k', o k' = 0 → lvOf (some (some (b, k))) < rank k') (p : P F) (Q : PUnit → sProp 𝕄) :
    iprop(knows A K ∗ cred (tallyAt (kcell (c, some (b, k))) () (amt k)) ∗ atPos ER (kcell (c, some (b, k))) 0 ∅ 0 ∗ owesR c (owed o c))
      ⊢ iprop(((semVal (kcell (c, some (b, k))) 0 ∗ pay A c 0 (some (some (b, k))) ∗ owesR c (owed o c)) -∗ WP c p Q)
          -∗ WP c (.op (.waitDma2 sem src dst hsrc hdst) fun _ => p) Q) := by
  unfold owesR
  iintro ⟨#HK, Hc, Hat, ⟨%W, HO⟩⟩ Hk
  iapply (Rounds.wp_wait_rest_token 𝒱₀ ER (Rd A) (c : Thread nD τ) none (sm := csem (some (b, k))) (k' := amt k) (κ := K (c, some (b, k)))
      (fun K => by rw [wpE_waitDma2_eq 𝒱₀ (c : Thread nD τ) none Set.univ, hsem, hamt]) (Set.mem_univ _) () (O := owed o c) (W := W) (R := 0) (m := 0) (T := ∅)
      (by rw [Nat.zero_add]; exact (expect_tr A c b k).symm)) $$ [Hc HO Hat]
  · isplitr; · iapply (knows_inv A K (c, some (b, k))); iexact HK
    isplitl [Hc]; · iexact Hc
    isplitl [HO]; · iexact HO
    isplitr
    · iapply (mayWait_owed c (some (b, k)) o ho); iapply (knows_lev A K); iexact HK
    iexact Hat
  iintro ⟨HO, Hat, -, Hp⟩
  imod (Rounds.cell_close ER (Rd A) (Set.mem_univ (K (c, some (b, k)))) (fun h => h) (R := 0 + 1) (Rd_later A (kcell (c, some (b, k))))) $$ [Hat] with Hz
  · isplitr; · iapply (knows_inv A K (c, some (b, k))); iexact HK
    iexact Hat
  iapply Hk
  isplitl [Hz]; · iexact Hz
  isplitl [Hp]; · iapply (Entails.of_eq (rest_tr A c b k)); iexact Hp
  iexists _; iexact HO

theorem pay_true (c : Dev nD) (k : Tr) : pay A c 0 (some (some (true, k))) = dstHas c k (blk A k (fro k c)) := rfl
theorem pay_false (c : Dev nD) (k : Tr) : pay A c 0 (some (some (false, k))) = srcHas c k (blk A k c) := rfl

theorem recv_sound (c : Dev nD) (k : Tr) {S S' : St} (h : doRecv k S = some S') : Leads A K c (pRecv k) S S' := fun p Q => by
  unfold doRecv at h
  split at h
  case isFalse => cases h
  case isTrue hc =>
  cases h
  obtain ⟨hi, ho⟩ := hc
  unfold pRecv stR
  iintro ⟨#HK, Ha, ⟨Ho, Hi, Hs, Hpc, Hres, HO⟩⟩ Hk
  ihave Hi' := (fam_take_eq S.i k hi (inR_0 A c k)) $$ Hi
  icases Hi' with ⟨⟨Hc, Hat⟩, Hi⟩
  iapply (wp_wait_tr A K c true k (rSem k) rfl rfl S.o ho) $$ [Hc Hat HO]
  · isplitr; · iexact HK
    isplitl [Hc]; · iexact Hc
    isplitl [Hat] <;> iassumption
  iintro ⟨Hz, Hp, HO⟩
  iapply Hk
  isplitl [Ha]; · iexact Ha
  isplitl [Ho]; · iexact Ho
  isplitl [Hi Hz Hp]
  · iapply (fam_put_eq S.i k 1 (inR_1 A c k))
    isplitr [Hi]; · isplitl [Hz]; · iexact Hz
                    rw [← pay_true A c k]; iexact Hp
    iexact Hi
  isplitl [Hs]; · iexact Hs
  isplitl [Hpc]; · iexact Hpc
  isplitl [Hres] <;> iassumption

theorem src_amt (k : Tr) : (srcV k).view.dmaCredit = amt k := by
  rcases k with ⟨d, s, j⟩ | ⟨d, t, q⟩
  · rfl
  · match t with
    | 0 => rfl
    | 1 => rfl
    | 2 => rfl

theorem gone_sound (c : Dev nD) (k : Tr) {S S' : St} (h : step (.gone k) S = some S') : Leads A K c (pGone k) S S' := fun p Q => by
  simp only [step] at h
  split at h
  case isFalse => cases h
  case isTrue ho =>
  cases h
  unfold pGone stR
  iintro ⟨#HK, Ha, ⟨Ho, Hi, Hs, Hpc, Hres, HO⟩⟩ Hk
  ihave Ho' := (fam_take_eq S.o k ho (outR_1 A c k)) $$ Ho
  icases Ho' with ⟨⟨Hc, Hat⟩, Ho⟩
  iapply (wp_wait_tr A K c false k (sSem k) rfl (src_amt k) S.o (fun k' _ => Nat.lt_trans Nat.one_pos (rank_pos k'))) $$ [Hc Hat HO]
  · isplitr; · iexact HK
    isplitl [Hc]; · iexact Hc
    isplitl [Hat] <;> iassumption
  iintro ⟨Hz, Hp, HO⟩
  iapply Hk
  isplitl [Ha]; · iexact Ha
  isplitl [Ho Hz Hp]
  · iapply (fam_put_eq S.o k 2 (outR_2 A c k))
    isplitr [Ho]; · isplitl [Hz]; · iexact Hz
                    rw [← pay_false A c k]; iexact Hp
    iexact Ho
  isplitl [Hi]; · iexact Hi
  isplitl [Hs]; · iexact Hs
  isplitl [Hpc]; · iexact Hpc
  isplitl [Hres]; · iexact Hres
  rw [owed_gone (o := S.o) (k := k) (v := 2) (by rw [ho]; decide) (by decide)]
  iexact HO

/-! ## The transfers' blocks as blocks of their buffers -/

omit [FloatOps F] in
theorem pts_reshape {sp : Space} {s s' : Shape} {e : EltTy} (v : View sig .tc sp s e) (h : s'.numel = s.numel) (c : Dev nD) (f : Buf (Elt F) (v.loc (c : Thread nD τ))) :
    ((v.reshape s' h).loc (c : Thread nD τ) ↦[(v.reshape s' h).set]{fullShare} f : sProp 𝕄) = (v.loc (c : Thread nD τ) ↦[v.set]{fullShare} f) :=
  congrArg (fun I => (v.loc (c : Thread nD τ) ↦[I]{fullShare} f : sProp 𝕄)) (v.set_reshape h)

omit [FloatOps F] in
theorem src_rs (c : Dev nD) (d : Fin 2) (s : Fin 3) (j : Fin 2) (f : (cc0_scratch1 : Ref sig .tc).ty.Contents (Elt F)) :
    (srcPts c (.inl (d, s, j)) f : sProp 𝕄) = ((sbM.access (rsRect d s j)).loc (c : Thread nD τ) ↦[(sbM.access (rsRect d s j)).set]{fullShare} f) :=
  pts_reshape (sbM.access (rsRect d s j)) _ c f
omit [FloatOps F] in
theorem dst_rs (c : Dev nD) (d : Fin 2) (s : Fin 3) (j : Fin 2) (f : (cc0_scratch2 : Ref sig .tc).ty.Contents (Elt F)) :
    (dstPts c (.inl (d, s, j)) f : sProp 𝕄) = ((rsM.access (rsRect d s j)).loc (c : Thread nD τ) ↦[(rsM.access (rsRect d s j)).set]{fullShare} f) :=
  pts_reshape (rsM.access (rsRect d s j)) _ c f
omit [FloatOps F] in
theorem dst_ag (c : Dev nD) (d : Fin 2) (t : Fin 3) (q : Fin 4) (f : (cc0_scratch4 : Ref sig .tc).ty.Contents (Elt F)) :
    (dstPts c (.inr (d, t, q)) f : sProp 𝕄) = ((agM.access (agRect d t q)).loc (c : Thread nD τ) ↦[(agM.access (agRect d t q)).set]{fullShare} f) :=
  pts_reshape (agM.access (agRect d t q)) _ c f
omit [FloatOps F] in
theorem src_own (c : Dev nD) (d : Fin 2) (q : Fin 4) (f : (cc0_scratch3 : Ref sig .tc).ty.Contents (Elt F)) :
    (srcPts c (.inr (d, 0, q)) f : sProp 𝕄) = ((ownM.access (ownQ d q)).loc (c : Thread nD τ) ↦[(ownM.access (ownQ d q)).set]{fullShare} f) :=
  pts_reshape (ownM.access (ownQ d q)) _ c f

omit [FloatOps F] in
theorem ex_congr {X : Type} {Φ Ψ : X → sProp 𝕄} (h : ∀ x, Φ x = Ψ x) : iprop(∃ x, Φ x) = iprop(∃ x, Ψ x) := by rw [funext h]

/-! A block holding `v`, as its buffer's block holding contents that are `v` re-shaped. -/

theorem srcHas_rs (c : Dev nD) (d : Fin 2) (s : Fin 3) (j : Fin 2) (v : Vec F S128x512 .bf16) :
    srcHas c (.inl (d, s, j)) v = iprop(∃ f : (cc0_scratch1 : Ref sig .tc).ty.Contents (Elt F),
      ⌜shapeCast S128x512 ((sbM.access (rsRect d s j)).read (Elt F) f : Vec F S1x1x1x128x512 .bf16) squeezes_S1x1x1x128x512_S128x512.numel_eq = v⌝
        ∗ ((sbM.access (rsRect d s j)).loc (c : Thread nD τ) ↦[(sbM.access (rsRect d s j)).set]{fullShare} f)) := by
  unfold srcHas
  exact ex_congr fun f => congrArg (fun Y => iprop(⌜_⌝ ∗ Y)) (src_rs c d s j f)
theorem dstHas_rs (c : Dev nD) (d : Fin 2) (s : Fin 3) (j : Fin 2) (v : Vec F S128x512 .bf16) :
    dstHas c (.inl (d, s, j)) v = iprop(∃ f : (cc0_scratch2 : Ref sig .tc).ty.Contents (Elt F),
      ⌜shapeCast S128x512 ((rsM.access (rsRect d s j)).read (Elt F) f : Vec F S1x1x1x128x512 .bf16) squeezes_S1x1x1x128x512_S128x512.numel_eq = v⌝
        ∗ ((rsM.access (rsRect d s j)).loc (c : Thread nD τ) ↦[(rsM.access (rsRect d s j)).set]{fullShare} f)) := by
  unfold dstHas
  exact ex_congr fun f => congrArg (fun Y => iprop(⌜_⌝ ∗ Y)) (dst_rs c d s j f)
theorem dstHas_ag (c : Dev nD) (d : Fin 2) (t : Fin 3) (q : Fin 4) (v : Vec F S64x512 .bf16) :
    dstHas c (.inr (d, t, q)) v = iprop(∃ f : (cc0_scratch4 : Ref sig .tc).ty.Contents (Elt F),
      ⌜shapeCast S64x512 ((agM.access (agRect d t q)).read (Elt F) f : Vec F S1x1x1x64x512 .bf16) squeezes_S1x1x1x64x512_S64x512.numel_eq = v⌝
        ∗ ((agM.access (agRect d t q)).loc (c : Thread nD τ) ↦[(agM.access (agRect d t q)).set]{fullShare} f)) := by
  unfold dstHas
  exact ex_congr fun f => congrArg (fun Y => iprop(⌜_⌝ ∗ Y)) (dst_ag c d t q f)
theorem srcHas_own (c : Dev nD) (d : Fin 2) (q : Fin 4) (v : Vec F S64x512 .bf16) :
    srcHas c (.inr (d, 0, q)) v = iprop(∃ f : (cc0_scratch3 : Ref sig .tc).ty.Contents (Elt F),
      ⌜shapeCast S64x512 ((ownM.access (ownQ d q)).read (Elt F) f : Vec F S1x64x512 .bf16) squeezes_S1x64x512_S64x512.numel_eq = v⌝
        ∗ ((ownM.access (ownQ d q)).loc (c : Thread nD τ) ↦[(ownM.access (ownQ d q)).set]{fullShare} f)) := by
  unfold srcHas
  exact ex_congr fun f => congrArg (fun Y => iprop(⌜_⌝ ∗ Y)) (src_own c d q f)
theorem srcAny_rs (c : Dev nD) (d : Fin 2) (s : Fin 3) (j : Fin 2) : (iprop(∃ f, srcPts c (.inl (d, s, j)) f) : sProp 𝕄)
    = iprop(∃ f : (cc0_scratch1 : Ref sig .tc).ty.Contents (Elt F), (sbM.access (rsRect d s j)).loc (c : Thread nD τ) ↦[(sbM.access (rsRect d s j)).set]{fullShare} f) := by
  exact ex_congr fun f => src_rs c d s j f
theorem srcAny_own (c : Dev nD) (d : Fin 2) (q : Fin 4) : (iprop(∃ f, srcPts c (.inr (d, 0, q)) f) : sProp 𝕄)
    = iprop(∃ f : (cc0_scratch3 : Ref sig .tc).ty.Contents (Elt F), (ownM.access (ownQ d q)).loc (c : Thread nD τ) ↦[(ownM.access (ownQ d q)).set]{fullShare} f) := by
  exact ex_congr fun f => src_own c d q f

/-! ## The vector events -/

/-- A send block is filled with what its transfer is to carry. -/
theorem doPut_sound (c : Dev nD) (d : Fin 2) (s : Fin 3) (j : Fin 2) {S S' : St} (h : doPut (.inl (d, s, j)) S = some S') :
    Leads A K c (pPut d s j (rsV A d j s c)) S S' := fun p Q => by
  unfold doPut at h
  split at h
  case isFalse => cases h
  case isTrue hs =>
  cases h
  unfold pPut stR
  iintro ⟨#HK, Ha, ⟨Ho, Hi, Hs, Hpc, Hres, HO⟩⟩ Hk
  ihave Hs' := (fam_take_eq S.s _ hs (srcR_0 A c _)) $$ Hs
  icases Hs' with ⟨Hb, Hs⟩
  ihave Hb := (Entails.of_eq (srcAny_rs c d s j)) $$ Hb
  icases Hb with ⟨%f, Hb⟩
  iapply (wp_load_rect 𝒱₀ (c : Thread nD τ) none Set.univ (m := sbM) (r := rsRect d s j) (q := fullShare) (f := f) (Finset.Subset.refl _)) $$ Hb; iintro Hb
  iapply (wp_store 𝒱₀ (c : Thread nD τ) none Set.univ (m := sbM) (r := rsRect d s j) (Mk := Finset.univ) (S := (sbM.access (rsRect d s j)).set) (f := f) (Finset.Subset.refl _)) $$ Hb; iintro Hb
  iapply Hk
  isplitl [Ha]; · iexact Ha
  isplitl [Ho]; · iexact Ho
  isplitl [Hi]; · iexact Hi
  isplitl [Hs Hb]
  · iapply (fam_put_eq S.s _ 1 (srcR_1 A c _))
    isplitr [Hs]
    · rw [srcHas_rs]; iexists _; isplitr
      rotate_left
      · iexact Hb
      ipureintro; rw [View.read_write_univ]; rfl
    iexact Hs
  isplitl [Hpc]; · iexact Hpc
  isplitl [Hres] <;> iassumption

/-- The operands of a partial product read. -/
theorem wp_read (c : Dev nD) (j : Fin 2) (e : Fin 4) (p : Vec F S128x1024 .f32 → Vec F S1024x2048 .f32 → Vec F S2048x1024 .f32 → P F) (Q : PUnit → sProp 𝕄) :
    argR A c ⊢ iprop((argR A c -∗ WP c (p (xRd A c j e) (w1Rd A c) (w2Rd A c)) Q) -∗ WP c (pRead c j e p) Q) := by
  unfold argR pRead
  iintro ⟨Hx, H1, H2⟩ Hk
  iapply (wp_load 𝒱₀ (c : Thread nD τ) none Set.univ (m := xM) (Finset.subset_univ _)) $$ Hx; iintro Hx
  iapply (wp_load 𝒱₀ (c : Thread nD τ) none Set.univ (m := w1M) (Finset.subset_univ _)) $$ H1; iintro H1
  iapply (wp_load 𝒱₀ (c : Thread nD τ) none Set.univ (m := w2M) (Finset.subset_univ _)) $$ H2; iintro H2
  iapply Hk
  isplitl [Hx]; · iexact Hx
  isplitl [H1] <;> iassumption

theorem first_sound (c : Dev nD) (j : Fin 2) {S S' : St} (h : step (.first j) S = some S') : Leads A K c (pFirst c j) S S' := fun p Q => by
  simp only [step, Option.bind_eq_some_iff] at h
  obtain ⟨S₁, h₁, S₂, h₂, S₃, h₃, h₄⟩ := h
  unfold pFirst
  iintro ⟨#HK, Ha, HS⟩ Hk
  iapply (wp_read A c j 0) $$ Ha; iintro Ha
  iapply ((doPut_sound A K c 0 0 j h₁).comp A K ((doSend_sound A K c (.inl (0, 0, j)) h₂).comp A K
    ((doPut_sound A K c 1 0 j h₃).comp A K (doSend_sound A K c (.inl (1, 0, j)) h₄))) p Q) $$ [Ha HS]
  · isplitr; · iexact HK
    isplitl [Ha] <;> iassumption
  iexact Hk

theorem part_sound (c : Dev nD) (i : Fin 3) (j : Fin 2) {S S' : St} (h : step (.part i j) S = some S') : Leads A K c (pPart c i j) S S' := fun p Q => by
  cases h
  unfold pPart stR pcR
  iintro ⟨#HK, Ha, ⟨Ho, Hi, Hs, ⟨%f, %hf, Hpc⟩, Hres, HO⟩⟩ Hk
  iapply (wp_read A c j (keptOf i)) $$ Ha; iintro Ha
  iapply (wp_load 𝒱₀ (c : Thread nD τ) none Set.univ (m := pcM) (Finset.subset_univ _)) $$ Hpc; iintro Hpc
  iapply (wp_store 𝒱₀ (c : Thread nD τ) none Set.univ (m := pcM) (r := pcJ i j) (Mk := Finset.univ) (Finset.subset_univ _)) $$ Hpc; iintro Hpc
  iapply Hk
  isplitl [Ha]; · iexact Ha
  isplitl [Ho]; · iexact Ho
  isplitl [Hi]; · iexact Hi
  isplitl [Hs]; · iexact Hs
  isplitl [Hpc]
  · iexists _; isplitr
    rotate_left
    · iexact Hpc
    ipureintro
    intro i' j' hij x hx
    have hw := write_agrees (pcM.access (pcJ i j)) (pcC A c) f _ (pcC_read A c i j) x
    by_cases e : (i', j') = (i, j)
    · obtain ⟨rfl, rfl⟩ := Prod.mk.inj e; exact hw.1 hx
    · exact hw.2 (hf i' j' ((Function.update_of_ne e _ _).symm.trans hij) x hx)
  isplitl [Hres] <;> iassumption

omit [FloatOps F] in
theorem pcH_sub (i : Fin 3) (j d : Fin 2) : (pcM.access (pcH i j d)).set ⊆ (pcM.access (pcJ i j)).set := by
  show ((View.whole cc0_scratch0).slice (pcH i j d)).set ⊆ ((View.whole cc0_scratch0).slice (pcJ i j)).set
  rw [View.set_slice_whole, View.set_slice_whole]
  intro x hx
  rw [Rect.mem_set_unit] at hx ⊢
  intro a
  have h := hx a
  match a with
  | ⟨0, _⟩ => exact h
  | ⟨1, _⟩ => exact h
  | ⟨2, _⟩ => exact ⟨Nat.zero_le _, (x 2).isLt⟩

/-- A landed block of the reduce-scatter, loaded. -/
theorem wp_load_rs (c : Dev nD) (d : Fin 2) (s : Fin 3) (j : Fin 2) {hl} (p : Vec F S1x1x1x128x512 .bf16 → P F) (Q : PUnit → sProp 𝕄) :
    dstHas c (.inl (d, s, j)) (blk A (.inl (d, s, j)) (fro (.inl (d, s, j)) c))
      ⊢ iprop((dstHas c (.inl (d, s, j)) (blk A (.inl (d, s, j)) (fro (.inl (d, s, j)) c)) -∗ WP c (p (rsV A d j s (nb (opp d) c))) Q)
        -∗ WP c (.op (.load rsM (rsRect d s j).toLoadRect hl) p) Q) := by
  rw [dstHas_rs]
  iintro ⟨%f, %hf, Hb⟩ Hk
  iapply (wp_load_rect 𝒱₀ (c : Thread nD τ) none Set.univ (m := rsM) (r := rsRect d s j) (q := fullShare) (f := f) (Finset.Subset.refl _)) $$ Hb; iintro Hb
  have e : ((rsM.access (rsRect d s j)).read (Elt F) f : Vec F S1x1x1x128x512 .bf16) = rsV A d j s (nb (opp d) c) :=
    shapeCast_inj (squeezes_S1x1x1x128x512_S128x512.numel_eq).symm hf
  rw [e]
  iapply Hk
  iexists f; isplitr; · ipureintro; exact hf
  iexact Hb

theorem acc_sound (c : Dev nD) (d s j : Fin 2) {S S' : St} (h : step (.acc d s j) S = some S') : Leads A K c (pAcc d s j) S S' := fun p Q => by
  simp only [step] at h
  split at h
  case isFalse => cases h
  case isTrue hc =>
  obtain ⟨hpc, hi⟩ := hc
  unfold pAcc
  iintro ⟨#HK, Ha, HS⟩ Hk
  unfold stR pcR
  icases HS with ⟨Ho, Hi, Hs, ⟨%f, %hf, Hpc⟩, Hres, HO⟩
  iapply (wp_load_rect 𝒱₀ (c : Thread nD τ) none Set.univ (m := pcM) (r := pcH (accSlot d s) j d) (Finset.subset_univ _)) $$ Hpc; iintro Hpc
  have e : ((pcM.access (pcH (accSlot d s) j d)).read (Elt F) f : Vec F S1x128x512 .f32) = pcHv A c (accSlot d s) j d :=
    View.read_congr fun x hx => hf _ _ hpc x (pcH_sub _ _ _ hx)
  rw [e]
  ihave Hi' := (fam_take_eq S.i _ hi (inR_1 A c _)) $$ Hi
  icases Hi' with ⟨⟨Hz, Hb⟩, Hi⟩
  iapply (wp_load_rs A c d s.castSucc j) $$ Hb; iintro Hb
  rw [← rsV_succ]
  iapply (doPut_sound A K c d s.succ j h p Q) $$ [Ha Ho Hi Hz Hb Hs Hpc Hres HO]
  · isplitr; · iexact HK
    isplitl [Ha]; · iexact Ha
    unfold stR pcR
    isplitl [Ho]; · iexact Ho
    isplitl [Hi Hz Hb]
    · iapply (fam_back_eq S.i _ hi (inR_1 A c _))
      isplitr [Hi]; · isplitl [Hz] <;> iassumption
      iexact Hi
    isplitl [Hs]; · iexact Hs
    isplitl [Hpc]
    · iexists f; isplitr; · ipureintro; exact hf
      iexact Hpc
    isplitl [Hres] <;> iassumption
  iexact Hk

/-- A landed block of the all-gather is the block that the next step sends. -/
theorem pass_0 (c : Dev nD) (d : Fin 2) (q : Fin 4) :
    dstHas c (.inr (d, 0, q)) (blk A (.inr (d, 0, q)) (fro (.inr (d, 0, q)) c)) = srcR A c (.inr (d, 1, q)) 1 := rfl
theorem pass_1 (c : Dev nD) (d : Fin 2) (q : Fin 4) :
    dstHas c (.inr (d, 1, q)) (blk A (.inr (d, 1, q)) (fro (.inr (d, 1, q)) c)) = srcR A c (.inr (d, 2, q)) 1 := rfl

theorem doPass_sound (c : Dev nD) (d : Fin 2) (t : Fin 3) (q : Fin 4) {S S' : St} (hi : S.i (.inr (d, t, q)) = 1) (h : doPass d q t S = some S') :
    stR A c S ⊢ stR A c S' := by
  have key : ∀ (k k' : Tr), S.i k = 1 → S.s k' = 2 → dstHas c k (blk A k (fro k c)) = srcR A c k' 1 →
      stR A c S ⊢ stR A c { S with i := Function.update S.i k 2, s := Function.update S.s k' 1 } := fun k k' hk hk' he => by
    unfold stR
    iintro ⟨Ho, Hi, Hs, Hpc, Hres, HO⟩
    ihave Hi' := (fam_take_eq S.i _ hk (inR_1 A c _)) $$ Hi
    icases Hi' with ⟨⟨Hz, Hb⟩, Hi⟩
    ihave Hs' := (fam_take_eq S.s _ hk' (srcR_2 A c _)) $$ Hs
    icases Hs' with ⟨-, Hs⟩
    isplitl [Ho]; · iexact Ho
    isplitl [Hi Hz]
    · iapply (fam_put_eq S.i k 2 (inR_2 A c _)); isplitl [Hz] <;> iassumption
    isplitl [Hs Hb]
    · iapply (fam_put_eq S.s k' 1 (rfl : srcR A c k' 1 = _))
      isplitl [Hb]; · rw [← he]; iexact Hb
      iexact Hs
    isplitl [Hpc]; · iexact Hpc
    isplitl [Hres] <;> iassumption
  match t with
  | 0 =>
    simp only [doPass] at h
    split at h
    case isFalse => cases h
    case isTrue hs => cases h; exact key _ _ hi hs (pass_0 A c d q)
  | 1 =>
    simp only [doPass] at h
    split at h
    case isFalse => cases h
    case isTrue hs => cases h; exact key _ _ hi hs (pass_1 A c d q)
  | 2 => cases h; exact Entails.refl _

/-- A block of the result written: the position's blocks and this one agree with the result. -/
theorem outOk_own (c : Dev nD) (d j : Fin 2) {S : Fin 2 × Fin 2 → Bool} {T : Fin 2 × Fin 3 × Fin 4 → Bool} {f : (cc0_stg3_0 : Ref sig .tc).ty.Contents (Elt F)}
    (hf : OutOk A c S T f) :
    OutOk A c (Function.update S (d, j) true) T ((outM.access (ownRect c d j)).write (Elt F) f (ownFin A c d j) Finset.univ) := by
  have hw := write_agrees (outM.access (ownRect c d j)) (outC A c) f _ (outC_own A c d j)
  refine ⟨fun d' j' h x hx => ?_, fun d' t q h x hx => (hw x).2 (hf.2 d' t q h x hx)⟩
  by_cases e : (d', j') = (d, j)
  · obtain ⟨rfl, rfl⟩ := Prod.mk.inj e; exact (hw x).1 hx
  · exact (hw x).2 (hf.1 d' j' ((Function.update_of_ne e _ _).symm.trans h) x hx)

theorem outOk_gat (c : Dev nD) (d : Fin 2) (t : Fin 3) (q : Fin 4) {S : Fin 2 × Fin 2 → Bool} {T : Fin 2 × Fin 3 × Fin 4 → Bool}
    {f : (cc0_stg3_0 : Ref sig .tc).ty.Contents (Elt F)} (hf : OutOk A c S T f) :
    OutOk A c S (Function.update T (d, t, q) true) ((outM.access (gatRect c d t q)).write (Elt F) f (gatFin A c d t q) Finset.univ) := by
  have hw := write_agrees (outM.access (gatRect c d t q)) (outC A c) f _ (outC_gat A c d t q)
  refine ⟨fun d' j' h x hx => (hw x).2 (hf.1 d' j' h x hx), fun d' t' q' h x hx => ?_⟩
  by_cases e : (d', t', q') = (d, t, q)
  · obtain ⟨rfl, e'⟩ := Prod.mk.inj e
    obtain ⟨rfl, rfl⟩ := Prod.mk.inj e'
    exact (hw x).1 hx
  · exact (hw x).2 (hf.2 d' t' q' ((Function.update_of_ne e _ _).symm.trans h) x hx)

theorem gat_sound (c : Dev nD) (d : Fin 2) (t : Fin 3) (q : Fin 4) {S S' : St} (h : step (.gat d t q) S = some S') :
    Leads A K c (pGat c d t q) S S' := fun p Q => by
  simp only [step] at h
  split at h
  case isFalse => cases h
  case isTrue hi =>
  unfold pGat
  iintro ⟨#HK, Ha, HS⟩ Hk
  unfold stR resR
  icases HS with ⟨Ho, Hi, Hs, Hpc, ⟨%g, %hg, Hres⟩, HO⟩
  ihave Hi' := (fam_take_eq S.i _ hi (inR_1 A c _)) $$ Hi
  icases Hi' with ⟨⟨Hz, Hb⟩, Hi⟩
  ihave Hb := (Entails.of_eq (dstHas_ag c d t q _)) $$ Hb
  icases Hb with ⟨%f, %hf, Hb⟩
  iapply (wp_load_rect 𝒱₀ (c : Thread nD τ) none Set.univ (m := agM) (r := agRect d t q) (q := fullShare) (f := f) (Finset.Subset.refl _)) $$ Hb; iintro Hb
  have e : gatV ((agM.access (agRect d t q)).read (Elt F) f : Vec F S1x1x1x64x512 .bf16) = gatFin A c d t q :=
    congrArg (fun v : FVec F S64x512 .bf16 => extf .f32 v bitsLt_bf16_f32) hf
  rw [e]
  iapply (wp_load 𝒱₀ (c : Thread nD τ) none Set.univ (m := outM) (Finset.subset_univ _)) $$ Hres; iintro Hres
  iapply (wp_store 𝒱₀ (c : Thread nD τ) none Set.univ (m := outM) (r := gatRect c d t q) (Mk := Finset.univ) (Finset.subset_univ _)) $$ Hres; iintro Hres
  iapply Hk
  isplitl [Ha]; · iexact Ha
  have hp := doPass_sound A c d t q (S := { S with gat := Function.update S.gat (d, t, q) true }) hi h
  unfold stR resR at hp
  iapply hp
  isplitl [Ho]; · iexact Ho
  isplitl [Hi Hz Hb]
  · iapply (fam_back_eq S.i _ hi (inR_1 A c _))
    isplitr [Hi]
    · isplitl [Hz]; · iexact Hz
      rw [dstHas_ag]; iexists f; isplitr; · ipureintro; exact hf
      iexact Hb
    iexact Hi
  isplitl [Hs]; · iexact Hs
  isplitl [Hpc]; · iexact Hpc
  isplitl [Hres]
  · iexists _; isplitr
    rotate_left
    · iexact Hres
    ipureintro; exact outOk_gat A c d t q hg
  iexact HO

/-! The two quarters of a half of the own sums. -/

omit [FloatOps F] in
theorem own_disj (d j : Fin 2) : Disjoint (ownM.access (ownQ d (loQ j))).set (ownM.access (ownQ d (hiQ j))).set := by
  show Disjoint ((View.whole cc0_scratch3).slice (ownQ d (loQ j))).set ((View.whole cc0_scratch3).slice (ownQ d (hiQ j))).set
  rw [View.set_slice_whole, View.set_slice_whole, Finset.disjoint_left]
  intro x hx hx'
  rw [Rect.mem_set_unit] at hx hx'
  have h := (hx 1).2
  have h' := (hx' 1).1
  change (x 1).val < 64 * (2 * j.val) + 64 at h
  change 64 * (2 * j.val + 1) ≤ (x 1).val at h'
  omega

omit [FloatOps F] in
theorem own_union (d j : Fin 2) :
    (ownM.access (ownQ d (loQ j))).set ∪ (ownM.access (ownQ d (hiQ j))).set = (ownM.access (ownJ d j)).set := by
  show ((View.whole cc0_scratch3).slice (ownQ d (loQ j))).set ∪ ((View.whole cc0_scratch3).slice (ownQ d (hiQ j))).set
    = ((View.whole cc0_scratch3).slice (ownJ d j)).set
  rw [View.set_slice_whole, View.set_slice_whole, View.set_slice_whole]
  ext x
  rw [Finset.mem_union, Rect.mem_set_unit, Rect.mem_set_unit, Rect.mem_set_unit]
  constructor
  · rintro (h | h) <;> intro a <;> have h0 := h a <;> match a with
    | ⟨0, _⟩ => exact h0
    | ⟨1, _⟩ =>
      have h1 : 64 * _ ≤ (x 1).val ∧ (x 1).val < 64 * _ + 64 := h0
      show 128 * j.val ≤ (x 1).val ∧ (x 1).val < 128 * j.val + 128
      simp only [loQ, hiQ] at h1
      omega
    | ⟨2, _⟩ => exact h0
  · intro h
    have h1 : 128 * j.val ≤ (x 1).val ∧ (x 1).val < 128 * j.val + 128 := h 1
    by_cases hx : (x 1).val < 128 * j.val + 64
    · refine Or.inl fun a => ?_
      match a with
      | ⟨0, _⟩ => exact h 0
      | ⟨1, _⟩ => show 64 * (2 * j.val) ≤ (x 1).val ∧ (x 1).val < 64 * (2 * j.val) + 64; omega
      | ⟨2, _⟩ => exact h 2
    · refine Or.inr fun a => ?_
      match a with
      | ⟨0, _⟩ => exact h 0
      | ⟨1, _⟩ => show 64 * (2 * j.val + 1) ≤ (x 1).val ∧ (x 1).val < 64 * (2 * j.val + 1) + 64; omega
      | ⟨2, _⟩ => exact h 2

omit [FloatOps F] in
/-- Two members of a family taken at once, and put back at other positions. -/
theorem fam_two (R : Tr → Fin 3 → sProp 𝕄) (σ : Tr → Fin 3) {k k' : Tr} (hne : k' ≠ k) {m m' : Fin 3} (h : σ k = m) (h' : σ k' = m') (n n' : Fin 3) :
    fam R σ ⊢ iprop((R k m ∗ R k' m') ∗ ((R k n ∗ R k' n') -∗ fam R (Function.update (Function.update σ k n) k' n'))) := by
  iintro H
  ihave H' := (fam_take R σ k h) $$ H
  icases H' with ⟨Hk, H⟩
  have ht : famBut R σ k ⊢ iprop(R k' m' ∗ bigSep ((Finset.univ.erase k).erase k') fun k => R k (σ k)) :=
    h' ▸ Entails.of_eq (BI.bigSep_erase (Φ := fun k => R k (σ k)) (Finset.mem_erase.2 ⟨hne, Finset.mem_univ k'⟩))
  ihave H' := ht $$ H
  icases H' with ⟨Hk', H⟩
  isplitl [Hk Hk']; · isplitl [Hk] <;> iassumption
  iintro ⟨Hk, Hk'⟩
  iapply (fam_put R (Function.update σ k n) k' n')
  isplitl [Hk']; · iexact Hk'
  have hb : iprop(R k n ∗ bigSep ((Finset.univ.erase k).erase k') fun k => R k (σ k)) ⊢ famBut R (Function.update σ k n) k' := by
    unfold famBut
    rw [BI.bigSep_erase (s := Finset.univ.erase k') (Φ := fun l => R l (Function.update σ k n l)) (Finset.mem_erase.2 ⟨hne.symm, Finset.mem_univ k⟩),
      Function.update_self, Finset.erase_right_comm (a := k') (b := k),
      BI.bigSep_congr (s := (Finset.univ.erase k).erase k') (Φ := fun l => R l (Function.update σ k n l)) (Ψ := fun l => R l (σ l)) fun l hl => by
        rw [Function.update_of_ne (Finset.ne_of_mem_erase (Finset.mem_of_mem_erase hl))]]
    exact Entails.refl _
  iapply hb
  isplitl [Hk] <;> iassumption

/-- The two quarters of a half, each at some contents, are the half at some contents. -/
theorem own_join (c : Dev nD) (d j : Fin 2) : iprop(srcR A c (.inr (d, 0, loQ j)) 0 ∗ srcR A c (.inr (d, 0, hiQ j)) 0)
    ⊢ (∃ f : (cc0_scratch3 : Ref sig .tc).ty.Contents (Elt F), (ownM.access (ownJ d j)).loc (c : Thread nD τ) ↦[(ownM.access (ownJ d j)).set]{fullShare} f : sProp 𝕄) := by
  rw [srcR_0, srcR_0, srcAny_own, srcAny_own, ← own_union d j]
  iintro ⟨⟨%f, Hf⟩, ⟨%g, Hg⟩⟩
  iexists _
  have hj : iprop(((ownM.access (ownJ d j)).loc (c : Thread nD τ) ↦[(ownM.access (ownQ d (loQ j))).set]{fullShare} f)
      ∗ ((ownM.access (ownJ d j)).loc (c : Thread nD τ) ↦[(ownM.access (ownQ d (hiQ j))).set]{fullShare} g)) ⊢ (_ : sProp 𝕄) := pointsTo_join (own_disj d j)
  iapply hj
  isplitl [Hf]; · iexact Hf
  iexact Hg

theorem own_split (c : Dev nD) (d j : Fin 2) (f : (cc0_scratch3 : Ref sig .tc).ty.Contents (Elt F)) :
    ((ownM.access (ownJ d j)).loc (c : Thread nD τ) ↦[(ownM.access (ownJ d j)).set]{fullShare} f : sProp 𝕄)
      ⊢ iprop(((ownM.access (ownQ d (loQ j))).loc (c : Thread nD τ) ↦[(ownM.access (ownQ d (loQ j))).set]{fullShare} f)
        ∗ ((ownM.access (ownQ d (hiQ j))).loc (c : Thread nD τ) ↦[(ownM.access (ownQ d (hiQ j))).set]{fullShare} f)) := by
  rw [← own_union d j]
  exact (pointsTo_union (own_disj d j)).1

/-- A quarter whose contents agree with the own sums holds what its transfer is to carry. -/
theorem own_quarter (c : Dev nD) (d : Fin 2) (q : Fin 4) (f : (cc0_scratch3 : Ref sig .tc).ty.Contents (Elt F))
    (hf : ∀ x ∈ (ownM.access (ownQ d q)).set, f x = ownC A c x) :
    ((ownM.access (ownQ d q)).loc (c : Thread nD τ) ↦[(ownM.access (ownQ d q)).set]{fullShare} f) ⊢ srcR A c (.inr (d, 0, q)) 1 := by
  rw [srcR_1, srcHas_own]
  iintro H
  iexists f; isplitr
  · ipureintro
    rw [View.read_congr hf]; rfl
  iexact H

theorem own_sound (c : Dev nD) (d j : Fin 2) {S S' : St} (h : step (.own d j) S = some S') : Leads A K c (pOwn c d j) S S' := fun p Q => by
  simp only [step] at h
  split at h
  case isFalse => cases h
  case isTrue hc =>
  obtain ⟨hpc, hi, hlo, hhi⟩ := hc
  cases h
  have hne : ∀ d j : Fin 2, (Sum.inr (d, 0, hiQ j) : Tr) ≠ .inr (d, 0, loQ j) := by decide
  unfold pOwn
  iintro ⟨#HK, Ha, HS⟩ Hk
  unfold stR pcR resR
  icases HS with ⟨Ho, Hi, Hs, ⟨%f, %hf, Hpc⟩, ⟨%g, %hg, Hres⟩, HO⟩
  iapply (wp_load_rect 𝒱₀ (c : Thread nD τ) none Set.univ (m := pcM) (r := pcJ (ownSlot d) j) (Finset.subset_univ _)) $$ Hpc; iintro Hpc
  have e : ((pcM.access (pcJ (ownSlot d) j)).read (Elt F) f : Vec F S1x128x1024 .f32) = pcSt A c (ownSlot d) j :=
    (View.read_congr fun x hx => hf _ _ hpc x hx).trans (pcC_read A c _ _)
  have e' : ownV (pcSt A c (ownSlot d) j) (rsV A d j 2 (nb (opp d) c)) d = ownFin A c d j := rfl
  rw [e]
  ihave Hi' := (fam_take_eq S.i _ hi (inR_1 A c _)) $$ Hi
  icases Hi' with ⟨⟨Hz, Hb⟩, Hi⟩
  iapply (wp_load_rs A c d 2 j) $$ Hb; iintro Hb
  rw [e']
  iapply (wp_load 𝒱₀ (c : Thread nD τ) none Set.univ (m := outM) (Finset.subset_univ _)) $$ Hres; iintro Hres
  iapply (wp_store 𝒱₀ (c : Thread nD τ) none Set.univ (m := outM) (r := ownRect c d j) (Mk := Finset.univ) (Finset.subset_univ _)) $$ Hres; iintro Hres
  ihave Hs' := (fam_two (srcR A c) S.s (hne d j) hlo hhi 1 1) $$ Hs
  icases Hs' with ⟨⟨Hlo, Hhi⟩, Hs⟩
  ihave Hown := (own_join A c d j) $$ [Hlo Hhi]
  · isplitl [Hlo] <;> iassumption
  icases Hown with ⟨%f₁, Hown⟩
  iapply (wp_load_rect 𝒱₀ (c : Thread nD τ) none Set.univ (m := ownM) (r := ownJ d j) (q := fullShare) (f := f₁) (Finset.Subset.refl _)) $$ Hown; iintro Hown
  iapply (wp_store 𝒱₀ (c : Thread nD τ) none Set.univ (m := ownM) (r := ownJ d j) (Mk := Finset.univ) (S := (ownM.access (ownJ d j)).set) (f := f₁) (Finset.Subset.refl _)) $$ Hown; iintro Hown
  iapply Hk
  isplitl [Ha]; · iexact Ha
  isplitl [Ho]; · iexact Ho
  isplitl [Hi Hz Hb]
  · iapply (fam_back_eq S.i _ hi (inR_1 A c _))
    isplitr [Hi]
    · isplitl [Hz] <;> iassumption
    iexact Hi
  isplitl [Hs Hown]
  · have hw := fun f => write_agrees (ownM.access (ownJ d j)) (ownC A c) f _ (ownC_read A c d j)
    ihave Hown := (own_split c d j _) $$ Hown
    icases Hown with ⟨Hlo, Hhi⟩
    iapply Hs
    isplitl [Hlo]
    · iapply (own_quarter A c d (loQ j) ((ownM.access (ownJ d j)).write (Elt F) f₁ (ownBf (ownFin A c d j)) Finset.univ) fun x hx => (hw f₁ x).1 (own_union d j ▸ Finset.mem_union_left _ hx)) $$ Hlo
    iapply (own_quarter A c d (hiQ j) ((ownM.access (ownJ d j)).write (Elt F) f₁ (ownBf (ownFin A c d j)) Finset.univ) fun x hx => (hw f₁ x).1 (own_union d j ▸ Finset.mem_union_right _ hx)) $$ Hhi
  isplitl [Hpc]
  · iexists f; isplitr; · ipureintro; exact hf
    iexact Hpc
  isplitl [Hres]
  · iexists _; isplitr
    rotate_left
    · iexact Hres
    ipureintro; exact outOk_own A c d j hg
  iexact HO

/-! ## The whole list -/

theorem step_sound (c : Dev nD) (e : Ev) {S S' : St} (h : step e S = some S') : Leads A K c (evP c e) S S' :=
  match e with
  | .first j => first_sound A K c j h
  | .part i j => part_sound A K c i j h
  | .acc d s j => acc_sound A K c d s j h
  | .own d j => own_sound A K c d j h
  | .gat d t q => gat_sound A K c d t q h
  | .send k => doSend_sound A K c k h
  | .recv k => recv_sound A K c k h
  | .gone k => gone_sound A K c k h

/-- The position after a list of events, if each of them may happen where it stands. -/
def run (evs : List Ev) (S : St) : Option St := evs.foldlM (fun S e => step e S) S

theorem run_sound (c : Dev nD) (evs : List Ev) {S S' : St} (h : run evs S = some S') (Q : PUnit → sProp 𝕄) :
    iprop(knows A K ∗ argR A c ∗ stR A c S) ⊢ iprop(((argR A c ∗ stR A c S') -∗ Q ⟨⟩) -∗ WP c (runEvs c evs) Q) := by
  induction evs generalizing S with
  | nil =>
    cases h
    iintro ⟨#HK, Ha, HS⟩ Hk
    unfold runEvs
    ihave H := Hk $$ [Ha HS]
    · isplitl [Ha] <;> iassumption
    have hr : Q ⟨⟩ ⊢ WP c (.ret ⟨⟩ : P F) Q := fupd_intro
    iapply hr $$ H
  | cons e evs ih =>
    simp only [run, List.foldlM_cons, Option.bind_eq_bind, Option.bind_eq_some_iff] at h
    obtain ⟨S₁, h₁, h₂⟩ := h
    iintro ⟨#HK, Ha, HS⟩ Hk
    iapply (step_sound A K c e h₁ (runEvs c evs) Q) $$ [Ha HS]
    · isplitr; · iexact HK
      isplitl [Ha] <;> iassumption
    iintro ⟨Ha, HS⟩
    iapply (ih h₂) $$ [Ha HS]
    · isplitr; · iexact HK
      isplitl [Ha] <;> iassumption
    iexact Hk

/-- Where the list starts, and where it ends. -/
def startSrc : Tr → Fin 3
  | .inl _ => 0
  | .inr (_, t, _) => if t = 0 then 0 else 2
def S₀ : St := ⟨fun _ => 0, fun _ => 0, startSrc, fun _ => false, fun _ => false, fun _ => false⟩
def endIn : Tr → Fin 3
  | .inl _ => 1
  | .inr (_, t, _) => if t = 2 then 1 else 2
def S₁ : St := ⟨fun _ => 2, endIn, fun _ => 2, fun _ => true, fun _ => true, fun _ => true⟩

/-- Every event of the list may happen where it stands. -/
theorem run_events : ∃ S, run events S₀ = some S ∧ S.o = S₁.o ∧ S.i = S₁.i ∧ S.s = S₁.s ∧ S.own = S₁.own ∧ S.gat = S₁.gat := by
  have h : (run events S₀).any (fun S => decide (S.o = S₁.o ∧ S.i = S₁.i ∧ S.s = S₁.s ∧ S.own = S₁.own ∧ S.gat = S₁.gat)) = true := by decide +kernel
  match hr : run events S₀ with
  | none => rw [hr] at h; cases h
  | some S => rw [hr] at h; exact ⟨S, rfl, of_decide_eq_true h⟩

end Cert.RingK
end
-- ==== Proof.Blocks.lean ====
/-
The kernel's scratch buffers held block by block.

Each of the four buffers that transfers read or write is exactly its slots, so holding the buffer is holding them all.
At the start the landing slots are lent to the neighbours; at the end every slot is back and the buffers are whole.
-/
module

public import proofs.«01_k».proof.Proof.Steps
public import Idealize.ShloMosaic.Lib.Ring

@[expose] public section

noncomputable section

namespace Cert.RingK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A buffer cut into blocks by where each element lies. -/
theorem cut (c : Dev nD) (b : Ref sig .tc) {B : Type} [Fintype B] [DecidableEq B] (I : B → Finset (Idx ((c : Thread nD τ).loc b)))
    (at_ : Idx ((c : Thread nD τ).loc b) → B) (h : ∀ x i, x ∈ I i ↔ at_ x = i) (f₀ : b.ty.Contents (Elt F)) :
    (iprop(∃ f, pts c b f) : sProp 𝕄) ⊣⊢ bigSep Finset.univ fun i => iprop(∃ f : b.ty.Contents (Elt F), ((c : Thread nD τ).loc b) ↦[I i]{fullShare} f) := by
  have hd : ∀ i j, i ≠ j → Disjoint (I i) (I j) := fun i j hij =>
    Finset.disjoint_left.2 fun x hi hj => hij (((h x i).1 hi).symm.trans ((h x j).1 hj))
  have hc : Finset.univ.biUnion I = Finset.univ := by
    ext x; simp only [Finset.mem_biUnion, Finset.mem_univ, true_and, iff_true]; exact ⟨at_ x, (h x _).2 rfl⟩
  constructor
  · iintro ⟨%f, H⟩
    have e : (pts c b f : sProp 𝕄) ⊢ bigSep Finset.univ fun i => iprop(∃ f : b.ty.Contents (Elt F), ((c : Thread nD τ).loc b) ↦[I i]{fullShare} f) := by
      have hm : (bigSep Finset.univ fun i => (((c : Thread nD τ).loc b) ↦[I i]{fullShare} f : sProp 𝕄))
          ⊢ bigSep Finset.univ fun i => iprop(∃ f : b.ty.Contents (Elt F), ((c : Thread nD τ).loc b) ↦[I i]{fullShare} f) :=
        bigSep_mono fun i _ => by
          show ((((c : Thread nD τ).loc b) ↦[I i]{fullShare} f : sProp 𝕄)) ⊢ iprop(∃ f : b.ty.Contents (Elt F), ((c : Thread nD τ).loc b) ↦[I i]{fullShare} f)
          iintro H; iexists f; iexact H
      exact (Entails.of_eq (Ring.pointsTo_blocks I hd hc f)).trans hm
    iapply e; iexact H
  · exact Ring.pointsTo_blocks_join_exists I hd hc f₀

theorem rs_mem (x : S2x3x2x128x512.Idx) (d : Fin 2) (s : Fin 3) (j : Fin 2) :
    x ∈ (rsRect d s j).set ↔ ((x 0, x 1, x 2) : Fin 2 × Fin 3 × Fin 2) = (d, s, j) := by
  rw [Rect.mem_set_unit]
  constructor
  · intro h
    have h0 : d.val ≤ (x 0).val ∧ (x 0).val < d.val + 1 := h 0
    have h1 : s.val ≤ (x 1).val ∧ (x 1).val < s.val + 1 := h 1
    have h2 : j.val ≤ (x 2).val ∧ (x 2).val < j.val + 1 := h 2
    refine Prod.ext (Fin.ext ?_) (Prod.ext (Fin.ext ?_) (Fin.ext ?_)) <;> dsimp only <;> omega
  · rintro ⟨⟩ a
    match a with
    | ⟨0, _⟩ => exact ⟨Nat.le_refl _, Nat.lt_succ_self _⟩
    | ⟨1, _⟩ => exact ⟨Nat.le_refl _, Nat.lt_succ_self _⟩
    | ⟨2, _⟩ => exact ⟨Nat.le_refl _, Nat.lt_succ_self _⟩
    | ⟨3, _⟩ => exact ⟨Nat.zero_le _, (Nat.zero_add _).symm ▸ (x 3).isLt⟩
    | ⟨4, _⟩ => exact ⟨Nat.zero_le _, (Nat.zero_add _).symm ▸ (x 4).isLt⟩

theorem ag_mem (x : S2x3x4x64x512.Idx) (d : Fin 2) (t : Fin 3) (q : Fin 4) :
    x ∈ (agRect d t q).set ↔ ((x 0, x 1, x 2) : Fin 2 × Fin 3 × Fin 4) = (d, t, q) := by
  rw [Rect.mem_set_unit]
  constructor
  · intro h
    have h0 : d.val ≤ (x 0).val ∧ (x 0).val < d.val + 1 := h 0
    have h1 : t.val ≤ (x 1).val ∧ (x 1).val < t.val + 1 := h 1
    have h2 : q.val ≤ (x 2).val ∧ (x 2).val < q.val + 1 := h 2
    refine Prod.ext (Fin.ext ?_) (Prod.ext (Fin.ext ?_) (Fin.ext ?_)) <;> dsimp only <;> omega
  · rintro ⟨⟩ a
    match a with
    | ⟨0, _⟩ => exact ⟨Nat.le_refl _, Nat.lt_succ_self _⟩
    | ⟨1, _⟩ => exact ⟨Nat.le_refl _, Nat.lt_succ_self _⟩
    | ⟨2, _⟩ => exact ⟨Nat.le_refl _, Nat.lt_succ_self _⟩
    | ⟨3, _⟩ => exact ⟨Nat.zero_le _, (Nat.zero_add _).symm ▸ (x 3).isLt⟩
    | ⟨4, _⟩ => exact ⟨Nat.zero_le _, (Nat.zero_add _).symm ▸ (x 4).isLt⟩

/-- The quarter that a row of the own sums lies in. -/
def quarterAt (x : S2x256x512.Idx) : Fin 4 := ⟨(x 1).val / 64, by have h : (x 1).val < 256 := (x 1).isLt; omega⟩

theorem own_mem (x : S2x256x512.Idx) (d : Fin 2) (q : Fin 4) : x ∈ (ownQ d q).set ↔ ((x 0, quarterAt x) : Fin 2 × Fin 4) = (d, q) := by
  rw [Rect.mem_set_unit]
  constructor
  · intro h
    have h0 : d.val ≤ (x 0).val ∧ (x 0).val < d.val + 1 := h 0
    have h1 : 64 * q.val ≤ (x 1).val ∧ (x 1).val < 64 * q.val + 64 := h 1
    refine Prod.ext (Fin.ext ?_) (Fin.ext ?_) <;> dsimp only [quarterAt] <;> omega
  · rintro ⟨⟩ a
    match a with
    | ⟨0, _⟩ => exact ⟨Nat.le_refl _, Nat.lt_succ_self _⟩
    | ⟨1, _⟩ =>
      show 64 * ((x 1).val / 64) ≤ (x 1).val ∧ (x 1).val < 64 * ((x 1).val / 64) + 64
      omega
    | ⟨2, _⟩ => exact ⟨Nat.zero_le _, (Nat.zero_add _).symm ▸ (x 2).isLt⟩

/-! Each buffer is its slots. -/

/-- A slot to be sent from, and one to land in, with anything in it. -/
def srcAny (c : Dev nD) (k : Tr) : sProp 𝕄 := iprop(∃ f, srcPts c k f)
def dstAny (c : Dev nD) (k : Tr) : sProp 𝕄 := iprop(∃ f, dstPts c k f)

omit [FloatOps F] in
theorem sb_cut (c : Dev nD) (f₀ : (cc0_scratch1 : Ref sig .tc).ty.Contents (Elt F)) :
    (iprop(∃ f, pts c cc0_scratch1 f) : sProp 𝕄) ⊣⊢ bigSep Finset.univ fun p : Fin 2 × Fin 3 × Fin 2 => srcAny c (.inl p) := by
  have h := cut c cc0_scratch1 (fun p : Fin 2 × Fin 3 × Fin 2 => (sbM.access (rsRect p.1 p.2.1 p.2.2)).set) (fun (x : S2x3x2x128x512.Idx) => (x 0, x 1, x 2))
    (fun x p => by
      show x ∈ ((View.whole cc0_scratch1).slice (rsRect p.1 p.2.1 p.2.2)).set ↔ _
      rw [View.set_slice_whole]; exact rs_mem x _ _ _) f₀
  rwa [bigSep_congr fun p _ => show _ = srcAny c (.inl p) from (ex_congr fun f => (src_rs c p.1 p.2.1 p.2.2 f)).symm] at h

omit [FloatOps F] in
theorem rs_cut (c : Dev nD) (f₀ : (cc0_scratch2 : Ref sig .tc).ty.Contents (Elt F)) :
    (iprop(∃ f, pts c cc0_scratch2 f) : sProp 𝕄) ⊣⊢ bigSep Finset.univ fun p : Fin 2 × Fin 3 × Fin 2 => dstAny c (.inl p) := by
  have h := cut c cc0_scratch2 (fun p : Fin 2 × Fin 3 × Fin 2 => (rsM.access (rsRect p.1 p.2.1 p.2.2)).set) (fun (x : S2x3x2x128x512.Idx) => (x 0, x 1, x 2))
    (fun x p => by
      show x ∈ ((View.whole cc0_scratch2).slice (rsRect p.1 p.2.1 p.2.2)).set ↔ _
      rw [View.set_slice_whole]; exact rs_mem x _ _ _) f₀
  rwa [bigSep_congr fun p _ => show _ = dstAny c (.inl p) from (ex_congr fun f => (dst_rs c p.1 p.2.1 p.2.2 f)).symm] at h

omit [FloatOps F] in
theorem ag_cut (c : Dev nD) (f₀ : (cc0_scratch4 : Ref sig .tc).ty.Contents (Elt F)) :
    (iprop(∃ f, pts c cc0_scratch4 f) : sProp 𝕄) ⊣⊢ bigSep Finset.univ fun p : Fin 2 × Fin 3 × Fin 4 => dstAny c (.inr p) := by
  have h := cut c cc0_scratch4 (fun p : Fin 2 × Fin 3 × Fin 4 => (agM.access (agRect p.1 p.2.1 p.2.2)).set) (fun (x : S2x3x4x64x512.Idx) => (x 0, x 1, x 2))
    (fun x p => by
      show x ∈ ((View.whole cc0_scratch4).slice (agRect p.1 p.2.1 p.2.2)).set ↔ _
      rw [View.set_slice_whole]; exact ag_mem x _ _ _) f₀
  rwa [bigSep_congr fun p _ => show _ = dstAny c (.inr p) from (ex_congr fun f => (dst_ag c p.1 p.2.1 p.2.2 f)).symm] at h

theorem own_cut (c : Dev nD) (f₀ : (cc0_scratch3 : Ref sig .tc).ty.Contents (Elt F)) :
    (iprop(∃ f, pts c cc0_scratch3 f) : sProp 𝕄) ⊣⊢ bigSep Finset.univ fun p : Fin 2 × Fin 4 => srcAny c (.inr (p.1, 0, p.2)) := by
  have h := cut c cc0_scratch3 (fun p : Fin 2 × Fin 4 => (ownM.access (ownQ p.1 p.2)).set) (fun (x : S2x256x512.Idx) => (x 0, quarterAt x))
    (fun x p => by
      show x ∈ ((View.whole cc0_scratch3).slice (ownQ p.1 p.2)).set ↔ _
      rw [View.set_slice_whole]; exact own_mem x _ _) f₀
  have e : ∀ p : Fin 2 × Fin 4, (iprop(∃ f : (cc0_scratch3 : Ref sig .tc).ty.Contents (Elt F), ((c : Thread nD τ).loc cc0_scratch3) ↦[(ownM.access (ownQ p.1 p.2)).set]{fullShare} f) : sProp 𝕄)
      = srcAny c (.inr (p.1, 0, p.2)) := fun p => (srcAny_own c p.1 p.2).symm
  rw [bigSep_congr fun p _ => e p] at h
  exact h

/-! ## All slots together -/

omit [FloatOps F] in
theorem both (Φ : Tr → sProp 𝕄) : bigSep Finset.univ Φ = iprop(bigSep Finset.univ (fun p => Φ (.inl p)) ∗ bigSep Finset.univ (fun p => Φ (.inr p))) :=
  BI.bigSep_univ_sum Φ

omit [FloatOps F] in
theorem bigSep_steps (Φ : Fin 3 → sProp 𝕄) : bigSep Finset.univ Φ = iprop(Φ 0 ∗ Φ 1 ∗ Φ 2) := bigSep_univ_eq_bigSepL [0, 1, 2] (by decide) (by decide) Φ

omit [FloatOps F] in
/-- A family over the all-gather's blocks, step by step. -/
theorem by_step (Φ : Fin 2 → Fin 3 → Fin 4 → sProp 𝕄) :
    bigSep Finset.univ (fun p : Fin 2 × Fin 3 × Fin 4 => Φ p.1 p.2.1 p.2.2)
      = iprop(bigSep Finset.univ (fun p : Fin 2 × Fin 4 => Φ p.1 0 p.2) ∗ bigSep Finset.univ (fun p : Fin 2 × Fin 4 => Φ p.1 1 p.2)
          ∗ bigSep Finset.univ (fun p : Fin 2 × Fin 4 => Φ p.1 2 p.2)) := by
  rw [bigSep_univ_prod, bigSep_univ_prod, bigSep_univ_prod, bigSep_univ_prod, ← bigSep_sep', ← bigSep_sep']
  exact bigSep_congr fun d _ => by rw [bigSep_univ_prod, bigSep_steps]

/-- The four buffers, each whole with anything in it. -/
def whole4 (c : Dev nD) : sProp 𝕄 :=
  iprop((∃ f, pts c cc0_scratch1 f) ∗ (∃ f, pts c cc0_scratch2 f) ∗ (∃ f, pts c cc0_scratch3 f) ∗ (∃ f, pts c cc0_scratch4 f))

omit [FloatOps F] in
/-- The landing slots of each direction, on the device `g` gives for it, are all the landing slots. -/
theorem slots_eq (g : Fin 2 → Dev nD) : iprop(slots (g 0) 0 ∗ slots (g 1) 1) = (bigSep Finset.univ fun k => dstAny (g (dirOf k)) k : sProp 𝕄) := by
  have e : (Finset.univ.filter fun k : Tr => ¬ dirOf k = 0) = Finset.univ.filter fun k : Tr => dirOf k = 1 :=
    Finset.filter_congr fun k _ => by
      have : ∀ d : Fin 2, ¬ d = 0 ↔ d = 1 := by decide
      exact this _
  have hd : ∀ d, (bigSep (Finset.univ.filter fun k : Tr => dirOf k = d) fun k => (dstAny (g (dirOf k)) k : sProp 𝕄)) = slots (g d) d := fun d =>
    bigSep_congr fun k hk => by rw [(Finset.mem_filter.1 hk).2]; rfl
  rw [show (bigSep Finset.univ fun k => (dstAny (g (dirOf k)) k : sProp 𝕄)) = _ from BI.bigSep_filter_split Finset.univ (fun k => dirOf k = 0), e, hd, hd]
  rfl

variable (A : Args F)

/-- At the start: the slots to send from, and the landing slots, to be lent. -/
theorem open_bufs (c : Dev nD) : whole4 c ⊢ iprop(fam (srcR A c) S₀.s ∗ slots c 0 ∗ slots c 1) := by
  rw [slots_eq fun _ => c]
  unfold whole4 fam
  rw [both (fun k => srcR A c k (S₀.s k)), both (fun k => (dstAny c k : sProp 𝕄)),
    by_step (fun d t q => srcR A c (.inr (d, t, q)) (S₀.s (.inr (d, t, q))))]
  iintro ⟨⟨%f1, H1⟩, ⟨%f2, H2⟩, ⟨%f3, H3⟩, ⟨%f4, H4⟩⟩
  ihave H1 := (sb_cut c f1).1 $$ [H1]
  · iexists f1; iexact H1
  ihave H2 := (rs_cut c f2).1 $$ [H2]
  · iexists f2; iexact H2
  ihave H3 := (own_cut c f3).1 $$ [H3]
  · iexists f3; iexact H3
  ihave H4 := (ag_cut c f4).1 $$ [H4]
  · iexists f4; iexact H4
  have he : ∀ t : Fin 3, t ≠ 0 → (bigSep Finset.univ fun p : Fin 2 × Fin 4 => srcR A c (.inr (p.1, t, p.2)) (S₀.s (.inr (p.1, t, p.2)))) = (iprop(emp) : sProp 𝕄) := fun t ht => by
    rw [bigSep_congr (Ψ := fun _ : Fin 2 × Fin 4 => (iprop(emp) : sProp 𝕄)) fun p _ => by
      show srcR A c _ (if t = 0 then 0 else 2) = _
      rw [if_neg ht]; rfl]
    exact BI.bigSep_emp_const _
  isplitl [H1 H3]
  · isplitl [H1]; · iexact H1
    isplitl [H3]; · iexact H3
    isplitr; · rw [he 1 (by decide)]; iempintro
    rw [he 2 (by decide)]; iempintro
  isplitl [H2]; · iexact H2
  iexact H4

/-- At the end: everything is back. -/
theorem close_bufs (c : Dev nD) (f1 : (cc0_scratch1 : Ref sig .tc).ty.Contents (Elt F)) (f2 : (cc0_scratch2 : Ref sig .tc).ty.Contents (Elt F))
    (f3 : (cc0_scratch3 : Ref sig .tc).ty.Contents (Elt F)) (f4 : (cc0_scratch4 : Ref sig .tc).ty.Contents (Elt F)) :
    iprop(fam (outR A c) S₁.o ∗ fam (inR A c) S₁.i)
      ⊢ iprop((bigSep Finset.univ fun k => semVal (sCell c k) 0) ∗ (bigSep Finset.univ fun k => semVal (rCell c k) 0) ∗ whole4 c) := by
  have ho : fam (outR A c) S₁.o = iprop((bigSep Finset.univ fun k => semVal (sCell c k) 0) ∗ bigSep Finset.univ fun k => srcHas c k (blk A k c)) :=
    bigSep_sep' _ _ _
  have hs : (bigSep Finset.univ fun k => srcHas c k (blk A k c)) ⊢ (bigSep Finset.univ fun k => srcAny c k : sProp 𝕄) :=
    bigSep_mono fun k _ => by
      unfold srcHas srcAny
      show (iprop(∃ f, ⌜(srcV k).view.read (Elt F) f = blk A k c⌝ ∗ srcPts c k f) : sProp 𝕄) ⊢ iprop(∃ f, srcPts c k f)
      iintro ⟨%f, -, H⟩; iexists f; iexact H
  have hi : fam (inR A c) S₁.i ⊢ iprop((bigSep Finset.univ fun k => semVal (rCell c k) 0) ∗ (bigSep Finset.univ fun p : Fin 2 × Fin 3 × Fin 2 => dstAny c (.inl p))
      ∗ bigSep Finset.univ fun p : Fin 2 × Fin 4 => dstAny c (.inr (p.1, 2, p.2))) := by
    have hk : fam (inR A c) S₁.i ⊢ (bigSep Finset.univ fun k => iprop(semVal (rCell c k) 0 ∗ if endIn k = 1 then dstAny c k else iprop(emp)) : sProp 𝕄) :=
      bigSep_mono fun k _ => by
        show inR A c k (endIn k) ⊢ _
        have : endIn k = 1 ∨ endIn k = 2 := by revert k; decide
        rcases this with h | h
        · rw [h, if_pos rfl, inR_1]
          unfold dstHas dstAny
          iintro ⟨Hz, ⟨%f, -, H⟩⟩
          isplitl [Hz]; · iexact Hz
          iexists f; iexact H
        · rw [h, if_neg (by decide), inR_2]
          iintro Hz
          isplitl; · iexact Hz
          iempintro
    refine hk.trans ?_
    rw [bigSep_sep', both (fun k => (if endIn k = 1 then dstAny c k else iprop(emp) : sProp 𝕄)),
      by_step (fun d t q => (if endIn (.inr (d, t, q)) = 1 then dstAny c (.inr (d, t, q)) else iprop(emp) : sProp 𝕄))]
    iintro ⟨Hz, Hl, -, -, Hr⟩
    isplitl [Hz]; · iexact Hz
    isplitl [Hl]; · iexact Hl
    iexact Hr
  rw [ho]
  iintro ⟨⟨Hz, Hs⟩, Hi⟩
  ihave Hs := hs $$ Hs
  ihave Hs := (Entails.of_eq ((both (fun k => (srcAny c k : sProp 𝕄))).trans
    (congrArg (fun Y => iprop(_ ∗ Y)) (by_step fun d t q => (srcAny c (.inr (d, t, q)) : sProp 𝕄))))) $$ Hs
  icases Hs with ⟨H1, H3, Ha, Hb⟩
  ihave Hi := hi $$ Hi
  icases Hi with ⟨Hz', H2, Hc⟩
  isplitl [Hz]; · iexact Hz
  isplitl [Hz']; · iexact Hz'
  unfold whole4
  isplitl [H1]; · iapply (sb_cut c f1).2 $$ H1
  isplitl [H2]; · iapply (rs_cut c f2).2 $$ H2
  isplitl [H3]; · iapply (own_cut c f3).2 $$ H3
  iapply (ag_cut c f4).2
  rw [by_step (fun d t q => (dstAny c (.inr (d, t, q)) : sProp 𝕄))]
  isplitl [Ha]; · iexact Ha
  isplitl [Hb]; · iexact Hb
  iexact Hc

end Cert.RingK
end
-- ==== Proof.Body.lean ====
/-
One device's whole body: the handshake, the list of events, the end.

The device tells both neighbours that it has started, lending each the landing slots it will write; once both have told
it the same it holds theirs. From there `run_sound` takes it through the list, and at the end every semaphore is at
zero, every buffer is whole again and the result is written everywhere.
-/
module

public import proofs.«01_k».proof.Proof.Blocks
public import proofs.«01_k».proof.Proof.Gen.KernelIdeal.Launch

@[expose] public section

noncomputable section

namespace Cert.RingK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F)

/-! ## What a device starts with and ends with -/

/-- The duties a device pays with its raises and its transfers. -/
def payToks (c : Dev nD) : sProp 𝕄 :=
  iprop(dutyTok ER (bCell (nb 1 c)) 0 0 ∗ dutyTok ER (bCell (nb 0 c)) 0 1
    ∗ (bigSep Finset.univ fun k : Tr => dutyTok ER (sCell c k) 0 0) ∗ bigSep Finset.univ fun k : Tr => dutyTok ER (rCell (dst k c) k) 0 0)

/-- Its own cells, each at the start of its round. -/
def ats (c : Dev nD) : sProp 𝕄 :=
  iprop(atPos ER (bCell c) 0 ∅ 0 ∗ (bigSep Finset.univ fun k : Tr => atPos ER (sCell c k) 0 ∅ 0) ∗ bigSep Finset.univ fun k : Tr => atPos ER (rCell c k) 0 ∅ 0)

/-- What it may count on arriving. -/
def creds (c : Dev nD) : sProp 𝕄 :=
  iprop(cred (tallyAt (bCell c) () 2) ∗ bigSep Finset.univ fun k : Tr => cred (tallyAt (rCell c k) () (amt k)))

def start (c : Dev nD) : sProp 𝕄 := iprop((∃ K, knows A K ∗ ats c ∗ payToks c) ∗ creds c)

/-- The scratch buffers. -/
def bufs (c : Dev nD) : sProp 𝕄 := iprop((∃ f, pts c cc0_scratch0 f) ∗ whole4 c)

/-- The body's own semaphores, all at zero. -/
def sems0 (c : Dev nD) : sProp 𝕄 :=
  iprop((bigSep Finset.univ fun k : Tr => semVal (sCell c k) 0) ∗ bigSep Finset.univ fun k : Tr => semVal (rCell c k) 0)

/-- What the body is given, and what it leaves. -/
def pre (K : Dev nD × Cx → ℕ) (c : Dev nD) : sProp 𝕄 :=
  iprop(knows A K ∗ ats c ∗ payToks c ∗ creds c ∗ bufs c ∗ owesR c (O₀ c) ∗ argR A c ∗ ∃ f, pts c cc0_stg3_0 f)
def post (c : Dev nD) : sProp 𝕄 :=
  iprop(bufs c ∗ sems0 c ∗ semVal (bCell c) 0 ∗ owesR c 0 ∗ argR A c ∗ pts c cc0_stg3_0 (outC A c))

/-! ## The handshake -/

variable (K : Dev nD × Cx → ℕ)

/-- What the device has once both neighbours have started. -/
def met (c : Dev nD) : sProp 𝕄 :=
  iprop(owesR c (owed (fun _ => 0) c) ∗ semVal (bCell c) 0 ∗ slots (nb 0 c) 0 ∗ slots (nb 1 c) 1)

theorem meet (c : Dev nD) (Q : PUnit → sProp 𝕄) :
    iprop(knows A K ∗ atPos ER (bCell c) 0 ∅ 0 ∗ dutyTok ER (bCell (nb 1 c)) 0 0 ∗ dutyTok ER (bCell (nb 0 c)) 0 1 ∗ cred (tallyAt (bCell c) () 2)
        ∗ slots c 0 ∗ slots c 1 ∗ owesR c (O₀ c))
      ⊢ iprop((met c -∗ WP c (runEvs c events : P F) Q) -∗ WP c kernelP Q) := by
  unfold kernelP WP
  rw [wp_deviceId]
  dsimp only
  rw [dev1_eq c, dev2_eq c]
  unfold owesR O₀
  iintro ⟨#HK, Hat, Ht1, Ht0, Hc, Hs0, Hs1, ⟨%W, HO⟩⟩ Hk
  iapply (Rounds.wp_signal 𝒱₀ ER (Rd A) (c : Thread nD τ) none (dst := (nb 1 c : Thread nD τ)) (sem := barS) (κ := K (nb 1 c, none)) (d := 0) (r := 0)
      (show (0 : Fin 2) ∈ (Rd A).duties (bCell (nb 1 c)) 0 by rw [Rd_duties]; exact Finset.mem_univ _)
      ((Rd_amount A (nb 1 c) none 0 0).trans (by decide)) () (owed (fun _ => 0) c + tallyAt (bCell (nb 0 c)) () 1) rfl) $$ [HO Ht1 Hs0]
  · isplitr; · iapply (knows_inv A K (nb 1 c, none)); iexact HK
    isplitl [HO]; · iexact HO
    isplitl [Ht1]; · iexact Ht1
    isplitl [Hs0]
    · have e : (Rd A).payload (((nb 1 c : Dev nD) : Thread nD τ), SemLoc.reg barS) 0 0 = slots c 0 := (Rd_payload A (nb 1 c) none 0 0).trans (congrArg (fun c => slots c 0) (nb_opp 1 c))
      iapply (Entails.of_eq e.symm) $$ Hs0
    iapply (knows_reached A K (nb 1 c, none)); iexact HK
  iintro HO
  iapply (Rounds.wp_signal 𝒱₀ ER (Rd A) (c : Thread nD τ) none (dst := (nb 0 c : Thread nD τ)) (sem := barS) (κ := K (nb 0 c, none)) (d := 1) (r := 0)
      (show (1 : Fin 2) ∈ (Rd A).duties (bCell (nb 0 c)) 0 by rw [Rd_duties]; exact Finset.mem_univ _)
      ((Rd_amount A (nb 0 c) none 0 1).trans (by decide)) () (owed (fun _ => 0) c) rfl) $$ [HO Ht0 Hs1]
  · isplitr; · iapply (knows_inv A K (nb 0 c, none)); iexact HK
    isplitl [HO]; · iexact HO
    isplitl [Ht0]; · iexact Ht0
    isplitl [Hs1]
    · have e : (Rd A).payload (((nb 0 c : Dev nD) : Thread nD τ), SemLoc.reg barS) 0 1 = slots c 1 := (Rd_payload A (nb 0 c) none 0 1).trans (congrArg (fun c => slots c 1) (nb_opp 0 c))
      iapply (Entails.of_eq e.symm) $$ Hs1
    iapply (knows_reached A K (nb 0 c, none)); iexact HK
  iintro HO
  iapply (Rounds.wp_wait_rest_token 𝒱₀ ER (Rd A) (c : Thread nD τ) none (κ := K (c, none))
      (wpE_semWait_eq 𝒱₀ (c : Thread nD τ) none Set.univ) (Set.mem_univ _) () (O := owed (fun _ => 0) c) (W := W) (R := 0) (m := 0) (T := ∅)
      ((by decide : 0 + (2#32 : BitVec 32).toInt.toNat = 2).trans (expect_bar A c).symm)) $$ [Hc HO Hat]
  · isplitr; · iapply (knows_inv A K (c, none)); iexact HK
    isplitl [Hc]; · iexact Hc
    isplitl [HO]; · iexact HO
    isplitr
    · iapply (mayWait_owed c none (fun _ => 0) fun k _ => rank_pos k)
      iapply (knows_lev A K); iexact HK
    iexact Hat
  iintro ⟨HO, Hat, -, Hpay⟩
  have e : bigSep ((Rd A).duties ((c : Thread nD τ), SemLoc.reg barS) 0 \ ∅) (fun d => (Rd A).payload ((c : Thread nD τ), SemLoc.reg barS) 0 d)
      = iprop(slots (nb 0 c) 0 ∗ slots (nb 1 c) 1) := rest_bar A c
  ihave Hp := (Entails.of_eq e) $$ Hpay
  icases Hp with ⟨H0, H1⟩
  imod (Rounds.cell_close ER (Rd A) (Set.mem_univ (K (c, none))) (fun h => h) (R := 0 + 1) (Rd_later A (bCell c))) $$ [Hat] with Hz
  · isplitr; · iapply (knows_inv A K (c, none)); iexact HK
    iexact Hat
  iapply Hk
  unfold met owesR
  isplitl [HO]; · iexists _; iexact HO
  isplitl [Hz]; · iexact Hz
  isplitl [H0] <;> iassumption

/-! ## The two ends of the list -/

/-- The transfers, all before their start. -/
theorem outs_start (c : Dev nD) :
    iprop((bigSep Finset.univ fun k : Tr => dutyTok ER (sCell c k) 0 0) ∗ (bigSep Finset.univ fun k : Tr => dutyTok ER (rCell (dst k c) k) 0 0)
        ∗ (bigSep Finset.univ fun k : Tr => dstAny (dst k c) k) ∗ bigSep Finset.univ fun k : Tr => atPos ER (sCell c k) 0 ∅ 0)
      ⊢ fam (outR A c) S₀.o := by
  rw [← bigSep_sep', ← bigSep_sep', ← bigSep_sep']
  exact Entails.refl _

theorem ins_start (c : Dev nD) :
    iprop((bigSep Finset.univ fun k : Tr => cred (tallyAt (rCell c k) () (amt k))) ∗ bigSep Finset.univ fun k : Tr => atPos ER (rCell c k) 0 ∅ 0)
      ⊢ fam (inR A c) S₀.i := by
  rw [← bigSep_sep']
  exact Entails.refl _

/-- A result written in all its blocks is the result. -/
theorem outOk_all (c : Dev nD) {S : Fin 2 × Fin 2 → Bool} {T : Fin 2 × Fin 3 × Fin 4 → Bool} (hS : S = fun _ => true) (hT : T = fun _ => true)
    {f : (cc0_stg3_0 : Ref sig .tc).ty.Contents (Elt F)} (hf : OutOk A c S T f) : f = outC A c := by
  subst hS hT
  have hs : ∀ r : Rect S1024x1024, (outM.access r).set = r.set := fun r => View.set_slice_whole cc0_stg3_0 r
  funext i
  rcases out_cover c i with ⟨d, j, h⟩ | ⟨d, t, q, h⟩
  · exact hf.1 d j rfl i (by rw [hs]; exact h)
  · exact hf.2 d t q rfl i (by rw [hs]; exact h)

/-- The whole body. -/
theorem body_sound (c : Dev nD) (Q : PUnit → sProp 𝕄) : iprop(pre A K c ∗ (post A c -∗ Q ⟨⟩)) ⊢ WP c kernelP Q := by
  obtain ⟨S, hr, ho, hi, hs, hown, hgat⟩ := run_events
  unfold pre ats payToks creds bufs
  iintro ⟨⟨#HK, ⟨HaB, HaS, HaR⟩, ⟨Ht1, Ht0, HtS, HtR⟩, ⟨HcB, HcR⟩, ⟨⟨%f0, Hpc⟩, H4⟩, HO, Harg, ⟨%g, Hout⟩⟩, Hk⟩
  ihave H4 := (open_bufs A c) $$ H4
  icases H4 with ⟨Hs, Hs0, Hs1⟩
  iapply (meet A K c Q) $$ [HaB Ht1 Ht0 HcB Hs0 Hs1 HO]
  · isplitr; · iexact HK
    isplitl [HaB]; · iexact HaB
    isplitl [Ht1]; · iexact Ht1
    isplitl [Ht0]; · iexact Ht0
    isplitl [HcB]; · iexact HcB
    isplitl [Hs0]; · iexact Hs0
    isplitl [Hs1] <;> iassumption
  unfold met
  iintro ⟨HO, HzB, Hn0, Hn1⟩
  ihave Hn := (Entails.of_eq (slots_eq fun d => nb d c)) $$ [Hn0 Hn1]
  · isplitl [Hn0] <;> iassumption
  iapply (run_sound A K c events hr Q) $$ [Harg Hs Hpc HO Hout Hn HaS HaR HtS HtR HcR]
  · isplitr; · iexact HK
    isplitl [Harg]; · iexact Harg
    unfold stR
    isplitl [Hn HaS HtS HtR]
    · iapply (outs_start A c)
      isplitl [HtS]; · iexact HtS
      isplitl [HtR]; · iexact HtR
      isplitl [Hn]; · iexact Hn
      iexact HaS
    isplitl [HcR HaR]
    · iapply (ins_start A c)
      isplitl [HcR] <;> iassumption
    isplitl [Hs]; · iexact Hs
    unfold pcR resR
    isplitl [Hpc]
    · iexists f0; isplitr; · ipureintro; exact fun _ _ h => absurd h Bool.false_ne_true
      iexact Hpc
    isplitl [Hout]
    · iexists g; isplitr; · ipureintro; exact ⟨fun _ _ h => absurd h Bool.false_ne_true, fun _ _ _ h => absurd h Bool.false_ne_true⟩
      iexact Hout
    iexact HO
  unfold stR pcR resR
  rw [ho, hi]
  iintro ⟨Harg, ⟨Ho, Hi, -, ⟨%f, -, Hpc⟩, ⟨%w, %hw, Hout⟩, HO⟩⟩
  have hw := outOk_all A c hown hgat hw
  subst hw
  rw [owed_none c (o := S₁.o) fun k => by show (2 : Fin 3) ≠ 0; decide]
  ihave Hb := (close_bufs A c (fun _ => default) (fun _ => default) (fun _ => default) (fun _ => default)) $$ [Ho Hi]
  · isplitl [Ho] <;> iassumption
  icases Hb with ⟨HzS, HzR, H4⟩
  iapply Hk
  unfold post bufs sems0
  isplitl [Hpc H4]
  · isplitl [Hpc]; · iexists f; iexact Hpc
    iexact H4
  isplitl [HzS HzR]
  · isplitl [HzS] <;> iassumption
  isplitl [HzB]; · iexact HzB
  isplitl [HO]; · iexact HO
  isplitl [Harg] <;> iassumption

end Cert.RingK
end
-- ==== Proof.Launch.lean ====
/-
The launch of the four devices, and the run of the whole program.

Every device starts with its cells at zero and owing its neighbours a raise of their barriers and the arrivals of its
transfers. The cells' invariants are made at once for all devices, the rights to pay are dealt to those who pay, and
each device's body then runs as `body_sound` says. `run_main` holds for any float values: the program ends, with every
counter at zero, the arguments as they were and the result as `outC` says.
-/
module

public import proofs.«01_k».proof.Proof.Body
public import Idealize.ShloMosaic.Lib.Pipeline.Kit
public import Idealize.ShloMosaic.Lib.Pipeline.CollectiveSegs

@[expose] public section

noncomputable section

namespace Cert.RingK

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Over a device's cells -/

omit [FloatOps F] in
/-- One resource per cell: the barrier's, the departures', the arrivals'. -/
theorem by_cx (Φ : Cx → sProp 𝕄) : bigSep Finset.univ Φ
    = iprop(Φ none ∗ (bigSep Finset.univ fun k : Tr => Φ (some (false, k))) ∗ bigSep Finset.univ fun k : Tr => Φ (some (true, k))) := by
  have h : (Finset.univ : Finset Cx).erase none = Finset.univ.map Function.Embedding.some := by
    ext x; rcases x with _ | x <;> simp
  rw [BI.bigSep_erase (Finset.mem_univ (none : Cx)), h, bigSep_map, bigSep_univ_prod, bigSep_univ_eq_bigSepL [false, true] (by decide) (by decide),
    bigSepL_cons_cons, bigSepL_singleton]
  rfl

/-- The body's own semaphores are its transfers'. -/
abbrev osem (x : Bool × Tr) : SemLoc sig := csem (some x)

theorem csem_scoped (x : Bool × Tr) : (osem x).isScoped .tc = true := by
  revert x; decide +kernel

theorem sSem_ge (k : Tr) : 4 ≤ (sSem k).val := by rw [sSem_val]; omega
theorem rSem_ge (k : Tr) : 4 ≤ (rSem k).val := by rw [rSem_val]; split <;> omega
theorem stage_sem_lt (w : Fin cfg0.W) (s : Fin (cfg0.win w).nbuf) : ((cfg0.win w).sem s).val < 4 := by
  revert s; revert w; decide

theorem stage_cix (w : Fin cfg0.W) (s : Fin (cfg0.win w).nbuf) : cix (.dma ((cfg0.win w).sem s)) = none := by
  rcases h : cix (.dma ((cfg0.win w).sem s)) with _ | x
  · rfl
  · have e := csem_of_cix h
    rcases x with _ | ⟨_ | _, k⟩
    · cases e
    · have := congrArg Fin.val (SemLoc.dma.inj e); have := stage_sem_lt w s; have := sSem_ge k; omega
    · have := congrArg Fin.val (SemLoc.dma.inj e); have := stage_sem_lt w s; have := rSem_ge k; omega

theorem ownSemFacts : Pipeline.OwnSemFacts cfg0.spec osem where
  isScoped := csem_scoped
  inj := fun x y h => Option.some.inj (csem_inj h)
  disj := fun x w s h => by
    have e := cix_csem (some x)
    rw [show csem (some x) = _ from h] at e
    exact nomatch (stage_cix w s).symm.trans e

/-! ## The cells and the rights to pay, as minted -/

def ringCells : Finset (GSem nD τ sig) := Finset.univ.map ⟨kcell, kcell_inj⟩

/-- A device's duties: two of its barrier, one of each other cell. -/
def tokOf : Dev nD × (Fin 2 ⊕ Bool × Tr) → GSem nD τ sig × ℕ × Fin 2
  | (c, .inl d) => (bCell c, 0, d)
  | (c, .inr x) => (kcell (c, some x), 0, 0)

theorem tokOf_inj : Function.Injective tokOf := by
  rintro ⟨c, d | x⟩ ⟨c', d' | x'⟩ h <;> simp only [tokOf] at h
  · have h1 := kcell_inj (congrArg Prod.fst h)
    have h2 : d = d' := congrArg (fun x : GSem nD τ sig × ℕ × Fin 2 => x.2.2) h
    rw [h2, show c = c' from congrArg Prod.fst h1]
  · exact nomatch congrArg Prod.snd (kcell_inj (congrArg Prod.fst h))
  · exact nomatch congrArg Prod.snd (kcell_inj (congrArg Prod.fst h))
  · have h1 := kcell_inj (congrArg Prod.fst h)
    rw [show c = c' from congrArg Prod.fst h1, show x = x' from Option.some.inj (congrArg Prod.snd h1)]

def ringToks : Finset (GSem nD τ sig × ℕ × Fin 2) := Finset.univ.map ⟨tokOf, tokOf_inj⟩

def u₀ : UU := (initOf (Pipeline.cells cfgs cellOf_inj) (Pipeline.launchToks cfgs cellOf_inj), initOf ringCells ringToks)

/-- The duties of device `c`'s own cells. -/
def ownToks (c : Dev nD) : sProp 𝕄 :=
  iprop((dutyTok ER (bCell c) 0 0 ∗ dutyTok ER (bCell c) 0 1)
    ∗ (bigSep Finset.univ fun k : Tr => dutyTok ER (sCell c k) 0 0) ∗ bigSep Finset.univ fun k : Tr => dutyTok ER (rCell c k) 0 0)

section Shared

variable (A : Args F)

/-- What the launch deals device `c`. -/
def G (c : Dev nD) : sProp 𝕄 :=
  iprop((bigSep Finset.univ fun x : Cx => roundState ER (Rd A) (kcell (c, x)) 0)
    ∗ (bigSep Finset.univ fun x : Cx => iprop(atPos ER (kcell (c, x)) 0 ∅ 0 ∗ reached ER (kcell (c, x)) 0)) ∗ ownToks c)

/-- What it holds once the invariants are made. -/
def G' (c : Dev nD) : sProp 𝕄 := iprop(∃ K, records A K ∗ ats c ∗ payToks c)

theorem over_cells (Φ : GSem nD τ sig → sProp 𝕄) :
    bigSep ringCells Φ = bigSep Finset.univ fun c : Dev nD => bigSep Finset.univ fun x : Cx => Φ (kcell (c, x)) := by
  unfold ringCells; rw [bigSep_map, bigSep_univ_prod]; rfl

theorem over_toks : bigSep ringToks (fun x => (dutyTok ER x.1 x.2.1 x.2.2 : sProp 𝕄)) = bigSep Finset.univ fun c : Dev nD => ownToks c := by
  unfold ringToks; rw [bigSep_map, bigSep_univ_prod]
  refine bigSep_congr fun c _ => ?_
  rw [BI.bigSep_univ_sum, bigSep_univ_prod, bigSep_univ_eq_bigSepL [(0 : Fin 2), 1] (by decide) (by decide), bigSepL_cons_cons, bigSepL_singleton,
    bigSep_univ_eq_bigSepL [false, true] (by decide) (by decide), bigSepL_cons_cons, bigSepL_singleton]
  rfl

theorem fund_ring : BI.own (ER (initOf ringCells ringToks)) ⊢ (|==> bigSep Finset.univ (G A) : sProp 𝕄) := by
  iintro HX
  imod (Rounds.fund ER (Rd A) ringCells ringToks) $$ HX with ⟨Hst, Hr, Hat, Htok⟩
  imodintro
  ihave Hst' := (Entails.of_eq (over_cells fun g => roundState ER (Rd A) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores -/

theorem ownSems0_eq (c : Dev nD) :
    (Pipeline.ownSems0 (Ix := Unit) (Name := ℕ) (U := UU) (Lvl := ℕ) (Val := Elt F) (τ := τ) osem c : sProp 𝕄) = sems0 c := by
  unfold Pipeline.ownSems0 sems0
  rw [bigSep_univ_prod, bigSep_univ_eq_bigSepL [false, true] (by decide) (by decide), bigSepL_cons_cons, bigSepL_singleton]
  rfl

theorem unscopedSems0_eq (c : Dev nD) : (unscopedSems0 c : sProp 𝕄) = semVal (bCell c) 0 := by
  unfold unscopedSems0; rw [bigSep_eq_bigSepL_of_eq [SemLoc.reg barS] (by decide +kernel) (by decide)]; rfl

theorem sems_by_cx (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (kcell (c, x)) 0 : sProp 𝕄) := by
  rw [ownSems0_eq, unscopedSems0_eq, by_cx]
  unfold sems0
  iintro ⟨⟨HS, HV⟩, HB⟩
  isplitl [HB]; · iexact HB
  isplitl [HS] <;> iassumption

/-- Each cell's invariant, made from its counter and its schedule's state. -/
theorem make_invs (c : Dev nD) :
    iprop((bigSep Finset.univ fun x : Cx => semVal (kcell (c, x)) 0) ∗ bigSep Finset.univ fun x : Cx => roundState ER (Rd A) (kcell (c, x)) 0)
      ⊢ (|={Set.univ}=> bigSep Finset.univ fun x : Cx => iprop(∃ κ : ℕ, cellInv ER (Rd A) κ (kcell (c, x))) : sProp 𝕄) := by
  rw [← bigSep_sep']
  exact (bigSep_mono fun x _ => (Rounds.body_intro ER (Rd A) (kcell (c, x))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun x : Cx => iprop(∃ κ : ℕ, cellInv ER (Rd A) κ (kcell (c, x))))
          ∗ (bigSep Finset.univ fun x : Cx => iprop(atPos ER (kcell (c, x)) 0 ∅ 0 ∗ reached ER (kcell (c, x)) 0)) ∗ ownToks c) := by
  unfold G
  iintro ⟨Hos, Hus, Hst, Hat, Htok⟩
  ihave Hv := (sems_by_cx (F := F) c) $$ [Hos Hus]
  · isplitl [Hos] <;> iassumption
  imod (make_invs A c) $$ [Hv Hst] with Hinv
  · isplitl [Hv] <;> iassumption
  imodintro
  isplitl [Hinv]; · iexact Hinv
  isplitl [Hat]; · iexact Hat
  iexact Htok

/-! ## The rights dealt to those who pay -/

/-- Where each transfer of each device arrives. -/
def arrive : Dev nD × Tr ≃ Dev nD × Tr :=
  ⟨fun x => (dst x.2 x.1, x.2), fun x => (fro x.2 x.1, x.2), fun x => Prod.ext (nb_opp _ _) rfl, fun x => Prod.ext (nb_nb_opp _ _) rfl⟩

theorem deal_arrivals :
    (bigSep Finset.univ fun c : Dev nD => bigSep Finset.univ fun k : Tr => (dutyTok ER (rCell c k) 0 0 : sProp 𝕄))
      = bigSep Finset.univ fun c : Dev nD => bigSep Finset.univ fun k : Tr => dutyTok ER (rCell (dst k c) k) 0 0 := by
  rw [← bigSep_univ_prod (fun x : Dev nD × Tr => (dutyTok ER (rCell x.1 x.2) 0 0 : sProp 𝕄)),
    ← bigSep_univ_prod (fun x : Dev nD × Tr => (dutyTok ER (rCell (dst x.2 x.1) x.2) 0 0 : sProp 𝕄)),
    bigSep_univ_equiv arrive (fun x : Dev nD × Tr => (dutyTok ER (rCell x.1 x.2) 0 0 : sProp 𝕄))]
  rfl

theorem deal : (bigSep Finset.univ fun c : Dev nD => (ownToks c : sProp 𝕄)) ⊢ bigSep Finset.univ fun c : Dev nD => payToks c := by
  unfold ownToks payToks
  simp only [bigSep_sep']
  rw [deal_arrivals,
    bigSep_univ_equiv (ring 1) (fun c : Dev nD => (dutyTok ER (bCell c) 0 0 : sProp 𝕄)),
    bigSep_univ_equiv (ring 0) (fun c : Dev nD => (dutyTok ER (bCell c) 0 1 : sProp 𝕄))]
  iintro ⟨⟨H1, H2⟩, H3, H4⟩
  isplitl [H1]; · iexact H1
  isplitl [H2]; · iexact H2
  isplitl [H3] <;> iassumption

omit [FloatOps F] in
/-- What all know goes to every summand. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem known_intro (K : Dev nD × Cx → ℕ) (c : Dev nD) : iprop(records A K ∗ (bigSep Finset.univ fun x : Cx => atPos ER (kcell (c, x)) 0 ∅ 0) ∗ payToks c) ⊢ G' A c := by
  rw [by_cx]
  unfold G' ats
  iintro ⟨HR, Ha, Ht⟩
  iexists K
  isplitl [HR]; · iexact HR
  isplitl [Ha] <;> iassumption

theorem regroup :
    (bigSep Finset.univ fun c : Dev nD => iprop((bigSep Finset.univ fun x : Cx => iprop(∃ κ : ℕ, cellInv ER (Rd A) κ (kcell (c, x))))
          ∗ (bigSep Finset.univ fun x : Cx => iprop(atPos ER (kcell (c, x)) 0 ∅ 0 ∗ reached ER (kcell (c, x)) 0)) ∗ ownToks c) : sProp 𝕄)
      ⊢ bigSep Finset.univ (G' A) := by
  simp only [bigSep_sep']
  rw [← bigSep_univ_prod (fun cx : Dev nD × Cx => iprop(∃ κ : ℕ, cellInv ER (Rd A) κ (kcell cx))),
    ← bigSep_univ_prod (fun cx : Dev nD × Cx => (reached ER (kcell cx) 0 : sProp 𝕄))]
  iintro ⟨HI, ⟨Hat, #HR⟩, Htok⟩
  ihave HK := (BI.bigSep_exists_pi Finset.univ (fun (cx : Dev nD × Cx) (κ : ℕ) => (cellInv ER (Rd A) κ (kcell cx) : sProp 𝕄))) $$ HI
  icases HK with ⟨%K, #HI⟩
  ihave Htk := (deal (F := F)) $$ Htok
  iapply (with_known (R := records A K) fun c _ => known_intro A K c)
  isplitr
  · unfold records; isplitl; · iexact HI
    iexact HR
  · iapply (Entails.of_eq (bigSep_sep' Finset.univ (fun c : Dev nD => bigSep Finset.univ fun x : Cx => (atPos ER (kcell (c, x)) 0 ∅ 0 : sProp 𝕄)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

end Shared

/-! ## What a device may count on -/

theorem tally_ite (c c' : Dev nD) (x x' : Cx) (n : ℕ) :
    (tallyAt (kcell (c', x')) () n : CellTallies nD τ sig Unit) (kcell (c, x)) () = if c = c' ∧ x = x' then n else 0 := by
  rw [tallyAt_apply]
  refine if_congr ⟨fun h => ?_, fun h => ?_⟩ rfl rfl
  · have := kcell_inj h.1; exact ⟨congrArg Prod.fst this, congrArg Prod.snd this⟩
  · rw [h.1, h.2]; exact ⟨rfl, rfl⟩

theorem owes_bar (d c : Dev nD) : O₀ d (bCell c) () = (if d = nb 1 c then 1 else 0) + (if d = nb 0 c then 1 else 0) := by
  have h0 : owed (fun _ => 0) d (bCell c) () = 0 := by
    rw [owed_apply]
    refine Finset.sum_eq_zero fun k _ => ?_
    rw [if_pos rfl, tally_ite, if_neg fun h => nomatch h.2]
  unfold O₀
  rw [Pi.add_apply, Finsupp.add_apply, Pi.add_apply, Finsupp.add_apply, h0, tally_ite, tally_ite, Nat.zero_add]
  have e (b : Fin 2) : (c = nb b d ∧ (none : Cx) = none) ↔ d = nb (opp b) c :=
    ⟨fun h => by rw [h.1, nb_opp], fun h => ⟨by rw [h, nb_nb_opp], rfl⟩⟩
  rw [if_congr (e 0) rfl rfl, if_congr (e 1) rfl rfl]
  rfl

theorem owes_arrival (d c : Dev nD) (k : Tr) : O₀ d (rCell c k) () = if d = fro k c then amt k else 0 := by
  unfold O₀
  rw [Pi.add_apply, Finsupp.add_apply, Pi.add_apply, Finsupp.add_apply, tally_ite, tally_ite, if_neg (fun h => nomatch h.2), if_neg (fun h => nomatch h.2),
    add_zero, add_zero, owed_apply, Finset.sum_eq_single k]
  · rw [if_pos rfl, tally_ite]
    exact if_congr ⟨fun h => by rw [h.1]; exact (nb_opp (dirOf k) d).symm, fun h => ⟨by rw [h]; exact (nb_nb_opp (dirOf k) c).symm, rfl⟩⟩ rfl rfl
  · intro k' _ hk
    rw [if_pos rfl, tally_ite, if_neg fun h => hk (congrArg Prod.snd (Option.some.inj h.2)).symm]
  · exact fun h => absurd (Finset.mem_univ k) h

theorem credit_bar (c : Dev nD) :
    tallyOn (bCell c) (launchCredit (Pipeline.owing O₀) 0 (bCell c)) = (tallyAt (bCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (nb 1 c) fun _ => 1, Finset.sum_ite_eq' Finset.univ (nb 0 c) fun _ => 1, if_pos (Finset.mem_univ _), if_pos (Finset.mem_univ _)]

theorem credit_arrival (c : Dev nD) (k : Tr) :
    tallyOn (rCell c k) (launchCredit (Pipeline.owing O₀) 0 (rCell c k)) = (tallyAt (rCell c k) () (amt k) : CellTallies nD τ sig Unit) := by
  unfold tallyAt; refine congrArg _ (Finsupp.ext fun u => ?_); cases u
  rw [Pipeline.launchCredit_owing, Finsupp.single_eq_same, Finset.sum_congr rfl fun d _ => owes_arrival d c k, Finset.sum_ite_eq' Finset.univ (fro k c) fun _ => amt k,
    if_pos (Finset.mem_univ _)]

/-- A device's arrival semaphores among all. -/
def rEmb : Tr ↪ SemLoc sig := ⟨fun k => csem (some (true, k)), fun k k' h => congrArg Prod.snd (Option.some.inj (csem_inj h))⟩

theorem credits (c : Dev nD) : (Pipeline.launchCred O₀ c : sProp 𝕄) ⊢ creds c := by
  unfold Pipeline.launchCred creds
  rw [bigSep_univ_at _ (SemLoc.reg barS), ← credit_bar c]
  refine sep_mono_right ((BI.bigSep_subset (t := Finset.univ.map rEmb) fun sm h => ?_).trans ?_)
  · obtain ⟨k, -, rfl⟩ := Finset.mem_map.mp h
    exact Finset.mem_erase.mpr ⟨fun h => (nomatch csem_inj (show csem (some (true, k)) = csem none from h)), Finset.mem_univ _⟩
  · rw [bigSep_map]
    exact bigSep_mono fun k _ => Entails.of_eq (congrArg cred (credit_arrival c k))

/-! ## The run -/

section Run

variable (m : (ℓ : Loc nD τ sig) → Buf (Elt F) ℓ) (ρ : Dev nD → PrngReg)

/-- The state at launch. -/
def s₀ : MemSt nD τ sig (Elt F) := ⟨m, fun _ => 0, ρ⟩

/-- The arguments as the memory has them. -/
def args : Args F where
  x c := (win0_0.blk (0 : Fin 1)).view.read (Elt F) ((s₀ m ρ).mem ((c : Thread nD τ).loc main_arg0))
  w1 c := (win0_1.blk (0 : Fin 1)).view.read (Elt F) ((s₀ m ρ).mem ((c : Thread nD τ).loc main_arg1))
  w2 c := (win0_2.blk (0 : Fin 1)).view.read (Elt F) ((s₀ m ρ).mem ((c : Thread nD τ).loc main_arg2))

/-- Before the body, and after it. -/
def Φ₀ (c : Dev nD) : sProp 𝕄 := iprop(start (args m ρ) c ∗ bufs c)
def Φ₁ (c : Dev nD) : sProp 𝕄 := iprop(bufs c ∗ sems0 c ∗ semVal (bCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m ρ).x c
    | ⟨1, _⟩ => (args m ρ).w1 c
    | ⟨2, _⟩ => (args m ρ).w2 c
    | ⟨3, _⟩ => outC (args m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ pts c b f) := by
  unfold owns; simp only [Memref.view_whole, View.read_whole, View.set_whole]

abbrev stg (c : Dev nD) (b : Ref sig .tc) (X : b.ty.Contents (Elt F)) : sProp 𝕄 := iprop(∃ f : b.ty.Contents (Elt F), ⌜f = X⌝ ∗ pts c b f)

set_option maxRecDepth 100000 in
def given (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def left (c : Dev nD) : sProp 𝕄 :=
  iprop(Φ₁ c ∗ (dats m ρ 0 c).owesAt () t0_0.succ ∗ stg c cc0_stg0_0 ((args m ρ).x c) ∗ stg c cc0_stg1_0 ((args m ρ).w1 c)
    ∗ stg c cc0_stg2_0 ((args m ρ).w2 c) ∗ stg c cc0_stg3_0 (outC (args m ρ) c))

theorem before_0 (c : Dev nD) (d) : (dats m ρ 0 c).before (0 : Fin 4) t0_0 d = (args m ρ).x c := by
  unfold Dat.before; rw [if_pos (fetch0_0 t0_0)]; rfl
theorem before_1 (c : Dev nD) (d) : (dats m ρ 0 c).before (1 : Fin 4) t0_0 d = (args m ρ).w1 c := by
  unfold Dat.before; rw [if_pos (fetch0_1 t0_0)]; rfl
theorem before_2 (c : Dev nD) (d) : (dats m ρ 0 c).before (2 : Fin 4) t0_0 d = (args m ρ).w2 c := by
  unfold Dat.before; rw [if_pos (fetch0_2 t0_0)]; rfl

theorem owes_open (c : Dev nD) : (dats m ρ 0 c).owesAt () t0_0.castSucc ⊢ owesR (F := F) c (O₀ c) := by
  unfold Dat.owesAt Pipeline.owesWithin owesR
  rw [show (dats m ρ 0 c).owed t0_0.castSucc = O₀ c from rfl]
  iintro ⟨%W, -, HO⟩
  iexists W; iexact HO

theorem owes_close (c : Dev nD) : owesR (F := F) c 0 ⊢ (dats m ρ 0 c).owesAt () t0_0.succ := by
  unfold Dat.owesAt Pipeline.owesWithin owesR
  rw [show (dats m ρ 0 c).owed t0_0.succ = 0 from rfl]
  iintro ⟨%W, HO⟩
  iexists W; isplitr; · ipureintro; exact fun _ _ => Or.inl trivial
  iexact HO

theorem given_pre (c : Dev nD) : given m ρ c ⊢ (∃ K, pre (args m ρ) K c : sProp 𝕄) := by
  unfold given Φ₀ start pre argR
  simp only [before_0, before_1, before_2]
  iintro ⟨⟨⟨⟨%K, HK, Ha, Ht⟩, Hc⟩, Hb⟩, Ho, ⟨%d0, %f0, %e0, H0⟩, ⟨%d1, %f1, %e1, H1⟩, ⟨%d2, %f2, %e2, H2⟩, ⟨%d3, %f3, %e3, H3⟩⟩
  subst e0 e1 e2
  ihave Ho' := (owes_open m ρ c) $$ Ho
  iexists K
  isplitl [HK]; · iexact HK
  isplitl [Ha]; · iexact Ha
  isplitl [Ht]; · iexact Ht
  isplitl [Hc]; · iexact Hc
  isplitl [Hb]; · iexact Hb
  isplitl [Ho']; · iexact Ho'
  isplitl [H0 H1 H2]
  · isplitl [H0]; · iexact H0
    isplitl [H1] <;> iassumption
  · iexists f3; iexact H3

theorem post_left (c : Dev nD) : post (args m ρ) c ⊢ left m ρ c := by
  unfold left Φ₁ post argR
  iintro ⟨Hb, Hz, HB, Ho, ⟨H0, H1, H2⟩, H3⟩
  isplitl [Hb Hz HB]
  · isplitl [Hb]; · iexact Hb
    isplitl [Hz] <;> iassumption
  isplitl [Ho]; · iapply (owes_close m ρ c) $$ Ho
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

set_option maxRecDepth 100000 in
/-- The body does what the launch asks of it. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_stage]
  show given m ρ c ⊢ WP c (bodyAt0 (F := F) t0_0) fun _ => left m ρ c
  rw [body_eq]
  iintro H
  ihave H' := (given_pre m ρ c) $$ H
  icases H' with ⟨%K, H'⟩
  iapply (body_sound (args m ρ) K c fun _ => left m ρ c)
  isplitl [H']; · iexact H'
  iintro H; iapply (post_left m ρ c) $$ H

/-! ### The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m ρ) c)
      ⊢ |={Set.univ}=> iprop(start (args m ρ) c ∗ emp) := by
  unfold G' start
  iintro ⟨-, Hlev, Hcr, -, ⟨%K, HR, Ha, Ht⟩⟩
  ihave Hc := (credits (F := F) c) $$ Hcr
  imodintro
  isplitl
  · isplitr [Hc]
    · iexists K
      unfold knows
      isplitl [HR Hlev]
      · isplitl [HR] <;> iassumption
      isplitl [Ha] <;> iassumption
    iexact Hc
  · iempintro

theorem bufs_eq (c : Dev nD) : (Pipeline.scopedRest cfg0.spec c : sProp 𝕄) = bufs c := by
  rw [show (Pipeline.scopedRest cfg0.spec c : sProp 𝕄) = _ from scopedRest0_eq c]; rfl

theorem phi0_intro (c : Dev nD) :
    iprop(start (args m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq, ownSems0_eq, unscopedSems0_eq]
  unfold Φ₁
  iintro ⟨Hb, Hz, HB⟩
  isplitl [HB]; · iexact HB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_of c _ _ 0 (Nat.le_of_eq (congrArg lvOf (stage_cix w s))) fun g u hg => by
      rcases t with ⟨_ | _, ht⟩
      · exact O₀_pos hg
      · exact absurd hg (Nat.lt_irrefl 0)

/-- Each window's array on device `c` when the program has ended. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On four devices, for any float values, from any memory: the program ends, with the arrays at `finalA` and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (args m ρ)) (G' := G' (args m ρ)) (u₀ := u₀)
    (hu₀ := by
      unfold u₀
      iintro Hu
      ihave H := (ownU_pair _ _) $$ Hu
      icases H with ⟨HP, HX⟩
      imod (fund_ring (args m ρ)) $$ HX with HG
      imodintro
      isplitl [HP] <;> iassumption)
    (hglob := glob (args m ρ))
    (hA := fun _ _ => rfl) (hpf := fun _ k => k.elim0)
    (X := start (args m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays at the end -/

theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg2) := (dats (F := F) m ρ 0 c).arrAt_in (2 : Fin 4) rfl _

end Run

end Cert.RingK

end
-- ==== Proof.Frames.lean ====
/-
The programs leave their arguments as they were and every semaphore counter at zero.

The two kernels are the same program, one read over bit patterns and one over the extended reals, and `run_main` is
about any float values, so both are read off it; the reference runs on one device and has no semaphores.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.RingK

open Cert.KernelIdeal Cert.KernelIdeal.Gen
open Idealize.ShloMosaic Idealize.ShloMosaic.TcCoe Idealize.SL.Sem

theorem frame_ideal : Cert.quiescent_KernelIdeal := fun m ρ _ =>
  (θ_run Cert.KernelIdeal.defs _ _).mono (fun _ h =>
      ⟨fun c => ⟨(h.1 c (0 : Fin 4)).trans (finalA_0 m ρ c), (h.1 c (1 : Fin 4)).trans (finalA_1 m ρ c), (h.1 c (2 : Fin 4)).trans (finalA_2 m ρ c)⟩, h.2⟩)
    (run_main (F := Ideal) m ρ)

/-- The two programs' bodies are the same text; -/
theorem body_same : Cert.Kernel.cc0_body (F := Bits) = Cert.KernelIdeal.cc0_body (F := Bits) := rfl

/-- so are the tables they are called from; -/
theorem table_same : Cert.Kernel.defs₀ (F := Bits) = Cert.KernelIdeal.defs₀ (F := Bits) := by
  unfold Cert.Kernel.defs₀ Cert.KernelIdeal.defs₀
  rw [body_same]
  refine congrArg Defs.onTc (funext fun l => funext fun x => ?_)
  match l, x with
  | 0, (t, s) => rfl
  | ⟨_ + 1, h⟩, _ => exact absurd h (Nat.not_lt.2 (Nat.le_add_left _ _))

/-- and so are the programs. -/
theorem defs_same : Cert.Kernel.defs (F := Bits) = Cert.KernelIdeal.defs (F := Bits) := by
  unfold Cert.Kernel.defs Cert.KernelIdeal.defs
  rw [table_same]; rfl

theorem frame_kernel : Cert.quiescent_Kernel := fun m ρ _ => by
  rw [defs_same]
  exact (θ_run Cert.KernelIdeal.defs _ _).mono (fun _ h =>
      ⟨fun c => ⟨(h.1 c (0 : Fin 4)).trans (finalA_0 m ρ c), (h.1 c (1 : Fin 4)).trans (finalA_1 m ρ c), (h.1 c (2 : Fin 4)).trans (finalA_2 m ρ c)⟩, h.2⟩)
    (run_main (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingK

end
-- ==== Proof.Sums.lean ====
/-
The values over the extended reals.

Device `c`'s share of the hidden axis gives a partial product `part A c` of all the rows. The rows a device works on at
each turn are a block of it, every sum that travels adds one more device's block at the same place, and so a finished sum
is the sum of all four devices' partial products there. Nothing is rounded over the extended reals, so the blocks that
are gathered are those sums too: `outC_sum` says that every device's result is the sum of the four partial products.
-/
module

public import proofs.«01_k».proof.Proof.Values
public import Idealize.ShloMosaic.Lib.Pointwise

@[expose] public section

noncomputable section

namespace Cert.RingK

open Cert.KernelIdeal Cert.KernelIdeal.Gen

open Idealize.ShloMosaic Idealize.ShloMosaic.TcCoe
open Idealize.SL Idealize.SL.Sem

variable (A : Args Ideal)

/-- An element of device `c`'s `x`, of its columns of `W1`, and of its rows of `W2`. -/
def xE (c : Dev nD) (r i : Fin 1024) : EReal := A.x c (ix2 r i)
def w1E (c : Dev nD) (i : Fin 1024) (h : Fin 2048) : EReal := A.w1 c (ix2 i h)
def w2E (c : Dev nD) (h : Fin 2048) (k : Fin 1024) : EReal := A.w2 c (ix2 h k)

/-- Device `c`'s partial product at row `r` and column `k`: the rectified products with its columns of `W1`, times its
    rows of `W2`. -/
def part (c : Dev nD) (r k : Fin 1024) : EReal :=
  ∑ h : Fin 2048, max (∑ i : Fin 1024, xE A c r i * w1E A c i h) 0 * w2E A c h k

/-- Row `n` of half `j` of chunk `b`. -/
def rowAt (b : Dev nD) (j : Fin 2) (n : Fin 128) : Fin 1024 :=
  ⟨256 * b.val + 128 * j.val + n.val, by have h : b.val < 4 := b.isLt; omega⟩

/-- Column `k` of the half that direction `d` carries. -/
def colAt (d : Fin 2) (k : Fin 512) : Fin 1024 := ⟨512 * (1 - d.val) + k.val, by omega⟩

/-- The device `e` places ahead. -/
def fwd (c : Dev nD) (e : Fin 4) : Dev nD := ⟨(c.val + e.val) % 4, Nat.mod_lt _ (show 0 < 4 by decide)⟩

/-! ## What is read of the arguments -/

theorem xOff_eq (c : Dev nD) (j : Fin 2) (e : Fin 4) : xOff c j e = ![256 * (fwd c e).val + 128 * j.val, 0] := by
  revert c j e; decide +kernel

theorem xRd_apply (c : Dev nD) (j : Fin 2) (e : Fin 4) (r : Fin 128) (i : Fin 1024) :
    xRd A c j e (ix2 r i) = xE A c (rowAt (fwd c e) j r) i := by
  show A.x c ((xRect c j e).emb (ix2 r i)) = _
  refine congrArg (A.x c) (funext fun a => ?_)
  match a with
  | ⟨0, _⟩ =>
    refine Fin.ext ?_
    show xOff c j e 0 + 1 * r.val = 256 * (fwd c e).val + 128 * j.val + r.val
    rw [xOff_eq]
    show 256 * (fwd c e).val + 128 * j.val + 1 * r.val = _
    omega
  | ⟨1, _⟩ =>
    refine Fin.ext ?_
    show xOff c j e 1 + 1 * i.val = i.val
    rw [xOff_eq]
    show 0 + 1 * i.val = _
    omega

theorem w1Rd_apply (c : Dev nD) (i : Fin 1024) (h : Fin 2048) : w1Rd A c (ix2 i h) = w1E A c i h := by
  show A.w1 c (w1Rect.emb (ix2 i h)) = _
  refine congrArg (A.w1 c) (funext fun a => ?_)
  match a with
  | ⟨0, _⟩ => exact Fin.ext (by show 0 + 1 * i.val = i.val; omega)
  | ⟨1, _⟩ => exact Fin.ext (by show 0 + 1 * h.val = h.val; omega)

theorem w2Rd_apply (c : Dev nD) (h : Fin 2048) (k : Fin 1024) : w2Rd A c (ix2 h k) = w2E A c h k := by
  show A.w2 c (w2Rect.emb (ix2 h k)) = _
  refine congrArg (A.w2 c) (funext fun a => ?_)
  match a with
  | ⟨0, _⟩ => exact Fin.ext (by show 0 + 1 * h.val = h.val; omega)
  | ⟨1, _⟩ => exact Fin.ext (by show 0 + 1 * k.val = k.val; omega)

/-! ## The partial products -/

/-- The sum of products that both forms of the partial product come to. -/
theorem part_eq (c : Dev nD) (j : Fin 2) (e : Fin 4) (r : Fin 128) (k : Fin 1024) :
    (∑ h : Fin 2048, max (∑ i : Fin 1024, xRd A c j e (ix2 r i) * w1Rd A c (ix2 i h)) 0 * w2Rd A c (ix2 h k) : EReal)
      = part A c (rowAt (fwd c e) j r) k :=
  Finset.sum_congr rfl fun h _ => by
    rw [w2Rd_apply]
    refine congrArg (fun t : EReal => max t 0 * w2E A c h k) (Finset.sum_congr rfl fun i _ => ?_)
    rw [xRd_apply, w1Rd_apply]

set_option maxRecDepth 16384 in
theorem pcSt_apply (c : Dev nD) (i : Fin 3) (j : Fin 2) (z : Fin 1) (r : Fin 128) (k : Fin 1024) :
    pcSt A c i j (ix3 z r k) = part A c (rowAt (fwd c (keptOf i)) j r) k := by
  rw [← part_eq]
  pointwise [pcSt, k0_pay10]

set_option maxRecDepth 16384 in
theorem partV_apply (c : Dev nD) (j : Fin 2) (e : Fin 4) (r : Fin 128) (k : Fin 1024) :
    partV (xRd A c j e) (w1Rd A c) (w2Rd A c) (ix2 r k) = part A c (rowAt (fwd c e) j r) k := by
  rw [← part_eq]
  pointwise [partV, k0_pay2, k0_pay1]

theorem firstV_apply (p : FVec Ideal S128x1024 .f32) (d : Fin 2) (r : Fin 128) (k : Fin 512) :
    firstV p d (ix5 0 0 0 r k) = p (ix2 r (colAt d k)) := by
  match d with
  | 0 => pointwise [firstV, k0_pay8]; rfl
  | 1 =>
    pointwise [firstV, k0_pay9]
    exact congrArg (fun m => p (ix2 r m)) (Fin.ext (by show k.val = 512 * (1 - 1) + k.val; omega))

theorem pcHv_apply (c : Dev nD) (i : Fin 3) (j d : Fin 2) (z : Fin 1) (r : Fin 128) (k : Fin 512) :
    pcHv A c i j d (ix3 z r k) = part A c (rowAt (fwd c (keptOf i)) j r) (colAt d k) := by
  rw [← pcSt_apply A c i j 0 r]
  have e0 : (⟨i.val + 1 * z.val, by omega⟩ : Fin 3) = i := Fin.ext (by show i.val + 1 * z.val = i.val; omega)
  have e1 : halfOf (128 * j.val + 1 * r.val) = j := Fin.ext (by show (128 * j.val + 1 * r.val) / 128 % 2 = _; omega)
  have e2 : in128 (128 * j.val + 1 * r.val) = r := Fin.ext (by show (128 * j.val + 1 * r.val) % 128 = _; omega)
  have e3 : (⟨512 * (1 - d.val) + 1 * k.val, by omega⟩ : Fin 1024) = colAt d k :=
    Fin.ext (by show 512 * (1 - d.val) + 1 * k.val = 512 * (1 - d.val) + k.val; omega)
  show pcSt A c ⟨i.val + 1 * z.val, _⟩ (halfOf (128 * j.val + 1 * r.val))
    (ix3 (0 : Fin 1) (in128 (128 * j.val + 1 * r.val)) (⟨512 * (1 - d.val) + 1 * k.val, _⟩ : Fin 1024)) = _
  rw [e0, e1, e2, e3]

/-! ## The sums -/

theorem acc_apply (a : Vec Ideal S1x128x512 .f32) (b : Vec Ideal S1x1x1x128x512 .bf16) (r : Fin 128) (k : Fin 512) :
    k0_pay11 (F := Ideal) a b (ix5 0 0 0 r k) = (a (ix3 0 r k) + b (ix5 0 0 0 r k) : EReal) := by
  pointwise [k0_pay11]

theorem ownV_apply (a : Vec Ideal S1x128x1024 .f32) (b : Vec Ideal S1x1x1x128x512 .bf16) (d : Fin 2) (r : Fin 128) (k : Fin 512) :
    ownV (F := Ideal) a b d (ix2 r k) = (a (ix3 0 r (colAt d k)) + b (ix5 0 0 0 r k) : EReal) := by
  match d with
  | 0 => pointwise [ownV, k0_pay34]; rfl
  | 1 =>
    pointwise [ownV, k0_pay37, k0_pay36]
    exact congrArg (fun m => (a (ix3 0 r m) + b (ix5 0 0 0 r k) : EReal)) (Fin.ext (by show k.val = 512 * (1 - 1) + k.val; omega))

theorem ownBf_apply (a : FVec Ideal S128x512 .f32) (z : Fin 1) (r : Fin 128) (k : Fin 512) :
    ownBf a (ix3 z r k) = a (ix2 r k) := by
  pointwise [ownBf, k0_pay40]

/-- The four devices met on the way in direction `d`, each with the place it works ahead: all work on the same chunk. -/
theorem same_chunk (d : Fin 2) (c : Dev nD) :
    fwd c (keptOf (ownSlot d)) = nb d c ∧ fwd (nb (opp d) c) (keptOf (accSlot d 1)) = nb d c
      ∧ fwd (nb (opp d) (nb (opp d) c)) (keptOf (accSlot d 0)) = nb d c
      ∧ fwd (nb (opp d) (nb (opp d) (nb (opp d) c))) 0 = nb d c := by
  revert d c; decide

/-- Going round from any device, in either direction, meets every device once. -/
theorem sum_round (d : Fin 2) (c : Dev nD) (f : Dev nD → EReal) :
    f c + (f (nb (opp d) c) + (f (nb (opp d) (nb (opp d) c)) + f (nb (opp d) (nb (opp d) (nb (opp d) c))))) = ∑ e, f e := by
  have hs : ∀ e : Dev nD, e ∈ ({c, nb (opp d) c, nb (opp d) (nb (opp d) c), nb (opp d) (nb (opp d) (nb (opp d) c))} : Finset (Dev nD)) := by
    revert d c; decide
  have hn : c ∉ ({nb (opp d) c, nb (opp d) (nb (opp d) c), nb (opp d) (nb (opp d) (nb (opp d) c))} : Finset (Dev nD))
      ∧ nb (opp d) c ∉ ({nb (opp d) (nb (opp d) c), nb (opp d) (nb (opp d) (nb (opp d) c))} : Finset (Dev nD))
      ∧ nb (opp d) (nb (opp d) c) ∉ ({nb (opp d) (nb (opp d) (nb (opp d) c))} : Finset (Dev nD)) := by
    revert d c; decide
  rw [← Finset.eq_univ_iff_forall.mpr hs, Finset.sum_insert hn.1, Finset.sum_insert hn.2.1, Finset.sum_insert hn.2.2,
    Finset.sum_singleton]

/-- A finished sum is the sum of the four partial products. -/
theorem ownFin_apply (c : Dev nD) (d j : Fin 2) (r : Fin 128) (k : Fin 512) :
    ownFin A c d j (ix2 r k) = ∑ e, part A e (rowAt (nb d c) j r) (colAt d k) := by
  obtain ⟨h0, h1, h2, h3⟩ := same_chunk d c
  rw [← sum_round d c]
  unfold ownFin
  rw [ownV_apply, show rsV A d j 2 (nb (opp d) c) = rsV A d j (1 : Fin 2).succ (nb (opp d) c) from rfl, rsV_succ,
    show rsV A d j (1 : Fin 2).castSucc (nb (opp d) (nb (opp d) c)) = rsV A d j (0 : Fin 2).succ (nb (opp d) (nb (opp d) c)) from rfl,
    rsV_succ, show ∀ p, rsV A d j (0 : Fin 2).castSucc p = firstV (partV (xRd A p j 0) (w1Rd A p) (w2Rd A p)) d from fun _ => rfl,
    acc_apply, acc_apply, firstV_apply, pcSt_apply, pcHv_apply, pcHv_apply, partV_apply, h0, h1, h2, h3]

/-! ## The result -/

/-- A gathered quarter block, likewise. -/
theorem ownQv_apply (c : Dev nD) (d : Fin 2) (q : Fin 4) (r : Fin 64) (k : Fin 512) :
    ownQv A c d q (ix2 r k)
      = ∑ e, part A e (rowAt (nb d c) (halfOf (64 * q.val + r.val)) (in128 (64 * q.val + r.val))) (colAt d k) := by
  rw [← ownFin_apply, ← ownBf_apply (ownFin A c d (halfOf (64 * q.val + r.val))) 0]
  have hq : ownQv A c d q = shapeCast S64x512 (ownM.view.readAt (Elt Ideal) (ownQ d q).toLoadRect (ownC A c)) squeezes_S1x64x512_S64x512.numel_eq := rfl
  generalize hv : ownM.view.readAt (Elt Ideal) (ownQ d q).toLoadRect (ownC A c) = v at hq
  have hs : ownQv A c d q (ix2 r k) = v (ix3 0 r k) := by
    rw [hq]
    change Vec Ideal S1x64x512 .bf16 at v
    show shapeCast S64x512 v _ (ix2 r k) = _
    pointwise []
  rw [hs, ← hv]
  have hd : (⟨d.val + 1 * 0, by omega⟩ : Fin 2) = d := Fin.ext (by show d.val + 1 * 0 = d.val; omega)
  have hr : 64 * q.val + 1 * r.val = 64 * q.val + r.val := by omega
  have hk : (⟨0 + 1 * k.val, by omega⟩ : Fin 512) = k := Fin.ext (by show 0 + 1 * k.val = k.val; omega)
  show ownBf (ownFin A c ⟨d.val + 1 * 0, _⟩ (halfOf (64 * q.val + 1 * r.val)))
    (ix3 (0 : Fin 1) (in128 (64 * q.val + 1 * r.val)) (⟨0 + 1 * k.val, _⟩ : Fin 512)) = _
  rw [hd, hr, hk]

/-- A block that has come no place is the device's own chunk; one that has come `t + 1` places was finished `t + 1`
    devices back. -/
theorem hops_zero (c : Dev nD) (d : Fin 2) (b : Dev nD) (h : hops c d b.val = 0) : nb d c = b := by
  revert c d b; decide

theorem hops_pos (c : Dev nD) (d : Fin 2) (b : Dev nD) (h : hops c d b.val ≠ 0) :
    nb d (back d (stepOf (hops c d b.val)) (nb (opp d) c)) = b := by
  revert c d b; decide

theorem colAt_side (k : Fin 1024) : colAt (sideOf k.val) (in512 k.val) = k := by
  refine Fin.ext ?_
  show 512 * (1 - (sideOf k.val).val) + k.val % 512 = k.val
  unfold sideOf
  split
  · show 512 * (1 - 1) + k.val % 512 = k.val; omega
  · show 512 * (1 - 0) + k.val % 512 = k.val; omega

/-- Every device's result is the sum of the four partial products. -/
theorem outC_sum (c : Dev nD) (r k : Fin 1024) : outC A c (ix2 r k) = ∑ e, part A e r k := by
  have hb : r.val / 256 < 4 := by omega
  show outN A c r.val k.val = _
  unfold outN
  by_cases h : hops c (sideOf k.val) (r.val / 256) = 0
  · rw [if_pos h]
    refine (ownFin_apply A c (sideOf k.val) (halfOf r.val) (in128 r.val) (in512 k.val)).trans ?_
    rw [hops_zero c (sideOf k.val) ⟨r.val / 256, hb⟩ h, colAt_side]
    have hr : rowAt ⟨r.val / 256, hb⟩ (halfOf r.val) (in128 r.val) = r :=
      Fin.ext (by show 256 * (r.val / 256) + 128 * (r.val / 128 % 2) + r.val % 128 = r.val; omega)
    rw [hr]
  · rw [if_neg h]
    refine (ownQv_apply A (back (sideOf k.val) (stepOf (hops c (sideOf k.val) (r.val / 256))) (nb (opp (sideOf k.val)) c))
      (sideOf k.val) (quarterOf r.val) (in64 r.val) (in512 k.val)).trans ?_
    rw [hops_pos c (sideOf k.val) ⟨r.val / 256, hb⟩ h, colAt_side]
    have hr : rowAt ⟨r.val / 256, hb⟩ (halfOf (64 * (quarterOf r.val).val + (in64 r.val).val))
        (in128 (64 * (quarterOf r.val).val + (in64 r.val).val)) = r :=
      Fin.ext (by
        show 256 * (r.val / 256) + 128 * ((64 * (r.val / 64 % 4) + r.val % 64) / 128 % 2)
          + (64 * (r.val / 64 % 4) + r.val % 64) % 128 = r.val
        omega)
    rw [hr]

end Cert.RingK
end
-- ==== Proof.Equation.lean ====
/-
The result is the reference's.

The reference contracts the whole hidden axis, 8192 long; the four devices contract 2048 of it each, and their columns of
`W1` and rows of `W2` are the blocks of the whole ones. A sum over the whole axis is the sum of the sums over its four
blocks, so the sum of the four partial products (`outC_sum`) is the reference's element. Addition of extended reals is
commutative and associative whatever the terms, so no argument has to be finite.
-/
module

public import proofs.«01_k».proof.Proof.Frames
public import proofs.«01_k».proof.Proof.Sums

@[expose] public section

noncomputable section

namespace Cert.RingK

open Cert.KernelIdeal Cert.KernelIdeal.Gen

open Idealize.ShloMosaic Idealize.ShloMosaic.TcCoe
open Idealize.SL Idealize.SL.Sem

/-! ## The result array and the arguments, whole -/

section Whole

variable {F : FTy → Type} [FloatOps F]
variable (m : (ℓ : Loc nD τ sig) → Buf (Elt F) ℓ) (ρ : Dev nD → PrngReg)

/-- The one block of the result array is the whole of it, and it holds what the body left. -/
theorem finalA_3 (c : Dev nD) : finalA m ρ c (3 : Fin 4) = outC (args m ρ) c := by
  have hz : (fun a => (win0_3.index (0 : Fin 1)) a * main_v1.ty.shape.size a) = fun _ => 0 :=
    funext fun a => by fin_cases a <;> decide
  refine (Memref.read_access_unit_zero (Elt F) main_v1 hz (fun a => by fin_cases a <;> decide) (finalA m ρ c (3 : Fin 4))).symm.trans ?_
  show (win0_3.blk (0 : Fin 1)).view.read (Elt F) (finalA m ρ c (3 : Fin 4)) = _
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

/-- The one block of each argument, too. -/
theorem args_x (c : Dev nD) : (args m ρ).x c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))

theorem args_w1 (c : Dev nD) : (args m ρ).w1 c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) (m ((c : Thread nD τ).loc main_arg1))

theorem args_w2 (c : Dev nD) : (args m ρ).w2 c = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) (m ((c : Thread nD τ).loc main_arg2))

end Whole

/-! ## The reference -/

/-- Where place `h` of device `e`'s share of the hidden axis is in the whole of it. -/
def hid (e : Dev nD) (h : Fin 2048) : Fin 8192 := ⟨e.val * 2048 + h.val, by have he : e.val < 4 := e.isLt; omega⟩

/-- A sum over the hidden axis is the sum over the devices of the sums over their shares. -/
theorem sum_hid (f : Fin 8192 → EReal) : ∑ H, f H = ∑ e : Dev nD, ∑ h, f (hid e h) := by
  rw [← Fintype.sum_prod_type' (f := fun (e : Dev nD) h => f (hid e h))]
  refine (Fintype.sum_equiv (finProdFinEquiv (m := 4) (n := 2048)) _ _ fun p => congrArg f (Fin.ext ?_)).symm
  show p.1.val * 2048 + p.2.val = p.2.val + 2048 * p.1.val
  omega

/-- The reference's result, of the whole arguments. -/
def refOut (x : FVec Ideal ⟨2, ![1024, 1024]⟩ .f32) (W1 : FVec Ideal ⟨2, ![1024, 8192]⟩ .f32) (W2 : FVec Ideal ⟨2, ![8192, 1024]⟩ .f32) :
    FVec Ideal ⟨2, ![1024, 1024]⟩ .f32 :=
  Host.dotGeneral Cert.ReferenceIdeal.dot_S1024x8192_S8192x1024_S1024x1024_1_0_0_1_n_n none
    (maximumf (Host.dotGeneral Cert.ReferenceIdeal.dot_S1024x1024_S1024x8192_S1024x8192_1_0_0_1_n_n none x W1)
      (broadcastInDim Cert.ReferenceIdeal.S1024x8192 ![] Cert.ReferenceIdeal.Facts₀.bcast_S_S1024x8192 (constant Cert.ReferenceIdeal.S_ .f32 0x00000000#32))) W2

set_option maxRecDepth 16384 in
theorem refOut_apply (x : FVec Ideal ⟨2, ![1024, 1024]⟩ .f32) (W1 : FVec Ideal ⟨2, ![1024, 8192]⟩ .f32) (W2 : FVec Ideal ⟨2, ![8192, 1024]⟩ .f32)
    (r k : Fin 1024) :
    refOut x W1 W2 (ix2 r k)
      = (∑ H : Fin 8192, max (∑ i : Fin 1024, x (ix2 r i) * W1 (ix2 i H)) 0 * W2 (ix2 H k) : EReal) := by
  pointwise [refOut]

/-- If the devices hold `x` and their blocks of `W1` and `W2`, the sum of their partial products is the reference's
    element. -/
theorem sum_part (A : Args Ideal) (x : FVec Ideal ⟨2, ![1024, 1024]⟩ .f32) (W1 : FVec Ideal ⟨2, ![1024, 8192]⟩ .f32)
    (W2 : FVec Ideal ⟨2, ![8192, 1024]⟩ .f32) (hx : ∀ c, A.x c = x)
    (h1 : ∀ c, A.w1 c = Layout.block ⟨2, ![1024, 2048]⟩ ⟨2, ![1024, 8192]⟩ 1 4 c W1)
    (h2 : ∀ c, A.w2 c = Layout.block ⟨2, ![2048, 1024]⟩ ⟨2, ![8192, 1024]⟩ 0 4 c W2) (r k : Fin 1024) :
    ∑ e, part A e r k = refOut x W1 W2 (ix2 r k) := by
  rw [refOut_apply, sum_hid]
  have e1 : ∀ c i h, w1E A c i h = W1 (ix2 i (hid c h)) := fun c i h => by
    unfold w1E; rw [h1]
    refine congrArg W1 (funext fun a => ?_)
    match a with
    | ⟨0, _⟩ => rfl
    | ⟨1, _⟩ => rfl
  have e2 : ∀ c h k, w2E A c h k = W2 (ix2 (hid c h) k) := fun c h k => by
    unfold w2E; rw [h2]
    refine congrArg W2 (funext fun a => ?_)
    match a with
    | ⟨0, _⟩ => rfl
    | ⟨1, _⟩ => rfl
  have e0 : ∀ c r i, xE A c r i = x (ix2 r i) := fun c r i => by unfold xE; rw [hx]
  refine Finset.sum_congr rfl fun e _ => Finset.sum_congr rfl fun h _ => ?_
  rw [e2]
  refine congrArg (fun t : EReal => max t 0 * W2 (ix2 (hid e h) k)) (Finset.sum_congr rfl fun i _ => ?_)
  rw [e0, e1]

/-! ## The claim -/

/-- Over the extended reals, every device ends with the reference's result. -/
theorem algebraic : Cert.algebraic_KernelIdeal_ReferenceIdeal := by
  intro m ρ m' ρ' _ hin
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run Cert.KernelIdeal.defs _ _).mono (fun _ h c =>
      ⟨((h.1 c (3 : Fin 4)).trans (finalA_3 m ρ c)).trans ?_, (h.1 c (0 : Fin 4)).trans (finalA_0 m ρ c),
        (h.1 c (1 : Fin 4)).trans (finalA_1 m ρ c), (h.1 c (2 : Fin 4)).trans (finalA_2 m ρ c)⟩) (run_main (F := Ideal) m ρ)
    refine funext fun (i : S1024x1024.Idx) => ?_
    rw [eq_ix2 i]
    exact (outC_sum (args m ρ) c (i 0) (i 1)).trans (sum_part (args m ρ) _ _ _ (fun c => (args_x m ρ c).trans (hin c).1)
      (fun c => (args_w1 m ρ c).trans (hin c).2.1) (fun c => (args_w2 m ρ c).trans (hin c).2.2) (i 0) (i 1))
  · exact (θ_run Cert.ReferenceIdeal.defs _ _).mono (fun _ h => h 0) (Cert.ReferenceIdeal.Value.run (F := Ideal) m' ρ')

end Cert.RingK
end
-- ==== Proof.lean ====
/-
The certificate: every claim, from the modules that prove it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts,
  Cert.RingK.frame_kernel, Cert.RingK.frame_ideal, Cert.RingK.frame_reference, trivial, Cert.RingK.algebraic⟩

end Cert.Proof

end
